-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x2048 : Shape := ⟨2, ![1024, 2048]⟩
abbrev S2048x1024 : Shape := ⟨2, ![2048, 1024]⟩
abbrev S8x128x1024 : Shape := ⟨3, ![8, 128, 1024]⟩
abbrev S128x1024 : Shape := ⟨2, ![128, 1024]⟩
abbrev S8 : Shape := ⟨1, ![8]⟩
abbrev S_ : Shape := ⟨0, ![]⟩
abbrev S128x2048 : Shape := ⟨2, ![128, 2048]⟩
abbrev S1x128x1024 : Shape := ⟨3, ![1, 128, 1024]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S1024x2048, .bf16⟩
  | .hbm, ⟨3, _⟩ => ⟨S2048x1024, .bf16⟩
  | .hbm, ⟨4, _⟩ => ⟨S1024x1024, .f32⟩
  | .local _ .vmem, ⟨0, _⟩ => ⟨S1024x1024, .bf16⟩
  | .local _ .vmem, ⟨1, _⟩ => ⟨S1024x2048, .bf16⟩
  | .local _ .vmem, ⟨2, _⟩ => ⟨S1024x2048, .bf16⟩
  | .local _ .vmem, ⟨3, _⟩ => ⟨S2048x1024, .bf16⟩
  | .local _ .vmem, ⟨4, _⟩ => ⟨S1024x1024, .f32⟩
  | .local _ .vmem, ⟨5, _⟩ => ⟨S8x128x1024, .bf16⟩
  | .local _ .vmem, ⟨6, _⟩ => ⟨S8x128x1024, .bf16⟩
  | .local _ .vmem, ⟨7, _⟩ => ⟨S128x1024, .bf16⟩
  | .local _ .vmem, ⟨8, _⟩ => ⟨S8x128x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
@[reducible] def k0_t1_loop : Scf.Loop 32 :=
  let c1_i32_29 : BitVec 32 := 1#32
  let c7_i32_30 : BitVec 32 := 7#32
  let v32 : BitVec 32 := Scalar.addi c1_i32_29 c7_i32_30
  let c1_i32_31 : BitVec 32 := 1#32
  ⟨c1_i32_29, v32, c1_i32_31⟩
def k0_off1 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let c1_i32_31 : BitVec 32 := 1#32
  let arg13 : BitVec 32 := Scf.iv c1_i32_29 c1_i32_31 k0_t1
  let v62 : BitVec 32 := Scalar.addi v2 arg13
  let c8_i32_61 : BitVec 32 := 8#32
  let v63 : BitVec 32 := Scalar.remsi v62 c8_i32_61
  let c128_i32_62 : BitVec 32 := 128#32
  let v64 : BitVec 32 := Scalar.muli v63 c128_i32_62
  let v65 : Index := Scalar.indexCast v64
  let c0_63 : Index := 0#32
  ![v65.toNat, 0]
def k0_off2 (k0_t1 : Fin k0_t1_loop.trips) : Fin 3 → Nat :=
  let c1_i32_29 : BitVec 32 := 1#32
  let c1_i32_31 : BitVec 32 := 1#32
  let arg13 : BitVec 32 := Scf.iv c1_i32_29 c1_i32_31 k0_t1
  let v82 : Index := Scalar.indexCast arg13
  let c0_73 : Index := 0#32
  let c0_74 : Index := 0#32
  ![v82.toNat, 0, 0]
def k0_off3 (k0_t1 : Fin k0_t1_loop.trips) : Fin 1 → Nat :=
  let c1_i32_29 : BitVec 32 := 1#32
  let c1_i32_31 : BitVec 32 := 1#32
  let arg13 : BitVec 32 := Scf.iv c1_i32_29 c1_i32_31 k0_t1
  ![arg13.toNat]
def k0_off4 (k0_t1 : Fin k0_t1_loop.trips) : Fin 3 → Nat :=
  let c1_i32_29 : BitVec 32 := 1#32
  let c1_i32_31 : BitVec 32 := 1#32
  let arg13 : BitVec 32 := Scf.iv c1_i32_29 c1_i32_31 k0_t1
  let c0_i32_78 : BitVec 32 := 0#32
  let c0_i32_79 : BitVec 32 := 0#32
  ![arg13.toNat, 0, 0]
def k0_dev8 (d0 : Dev nD) (k0_t1 : Fin k0_t1_loop.trips) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_29 : BitVec 32 := 1#32
  let c1_i32_31 : BitVec 32 := 1#32
  let arg13 : BitVec 32 := Scf.iv c1_i32_29 c1_i32_31 k0_t1
  let v86 : BitVec 32 := Scalar.addi v2 arg13
  let c8_i32_75 : BitVec 32 := 8#32
  let v87 : BitVec 32 := Scalar.remsi v86 c8_i32_75
  let c1_i32_76 : BitVec 32 := 1#32
  let v88 : BitVec 32 := Scalar.muli v87 c1_i32_76
  let v89 : BitVec 32 := Scalar.addi c0_i32_77 v88
  v89.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v33 : BitVec 32 := Scalar.muli v2 c128_i32
  let v34 : Index := Scalar.indexCast v33
  let c0 : Index := 0#32
  ![v34.toNat, 0]
@[reducible] def k0_t2_loop : Scf.Loop 32 :=
  let c1_i32_41 : BitVec 32 := 1#32
  let c7_i32_42 : BitVec 32 := 7#32
  let v50 : BitVec 32 := Scalar.addi c1_i32_41 c7_i32_42
  let c1_i32_43 : BitVec 32 := 1#32
  ⟨c1_i32_41, v50, c1_i32_43⟩
def k0_off6 (k0_t2 : Fin k0_t2_loop.trips) : Fin 1 → Nat :=
  let c1_i32_41 : BitVec 32 := 1#32
  let c1_i32_43 : BitVec 32 := 1#32
  let arg13 : BitVec 32 := Scf.iv c1_i32_41 c1_i32_43 k0_t2
  ![arg13.toNat]
def k0_off7 (k0_t2 : Fin k0_t2_loop.trips) : Fin 3 → Nat :=
  let c1_i32_41 : BitVec 32 := 1#32
  let c1_i32_43 : BitVec 32 := 1#32
  let arg13 : BitVec 32 := Scf.iv c1_i32_41 c1_i32_43 k0_t2
  let c0_i32_64 : BitVec 32 := 0#32
  let c0_i32_65 : BitVec 32 := 0#32
  ![arg13.toNat, 0, 0]
def k0_off8 (k0_t2 : Fin k0_t2_loop.trips) : Fin 3 → Nat :=
  let c1_i32_41 : BitVec 32 := 1#32
  let c1_i32_43 : BitVec 32 := 1#32
  let arg13 : BitVec 32 := Scf.iv c1_i32_41 c1_i32_43 k0_t2
  let v72 : Index := Scalar.indexCast arg13
  let c0_68 : Index := 0#32
  let c0_69 : Index := 0#32
  ![v72.toNat, 0, 0]
@[reducible] def k0_t3_loop : Scf.Loop 32 :=
  let c1_i32_49 : BitVec 32 := 1#32
  let c7_i32_50 : BitVec 32 := 7#32
  let v59 : BitVec 32 := Scalar.addi c1_i32_49 c7_i32_50
  let c1_i32_51 : BitVec 32 := 1#32
  ⟨c1_i32_49, v59, c1_i32_51⟩
def k0_off9 (k0_t3 : Fin k0_t3_loop.trips) : Fin 1 → Nat :=
  let c1_i32_49 : BitVec 32 := 1#32
  let c1_i32_51 : BitVec 32 := 1#32
  let arg13 : BitVec 32 := Scf.iv c1_i32_49 c1_i32_51 k0_t3
  ![arg13.toNat]
def k0_off10 (k0_t3 : Fin k0_t3_loop.trips) : Fin 3 → Nat :=
  let c1_i32_49 : BitVec 32 := 1#32
  let c1_i32_51 : BitVec 32 := 1#32
  let arg13 : BitVec 32 := Scf.iv c1_i32_49 c1_i32_51 k0_t3
  let c0_i32_64 : BitVec 32 := 0#32
  let c0_i32_65 : BitVec 32 := 0#32
  ![arg13.toNat, 0, 0]
def k0_dev9 (d0 : Dev nD) (k0_t3 : Fin k0_t3_loop.trips) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_49 : BitVec 32 := 1#32
  let c1_i32_51 : BitVec 32 := 1#32
  let arg13 : BitVec 32 := Scf.iv c1_i32_49 c1_i32_51 k0_t3
  let v62 : BitVec 32 := Scalar.addi v2 arg13
  let c8_i32_61 : BitVec 32 := 8#32
  let v63 : BitVec 32 := Scalar.remsi v62 c8_i32_61
  let c1_i32_62 : BitVec 32 := 1#32
  let v64 : BitVec 32 := Scalar.muli v63 c1_i32_62
  let v65 : BitVec 32 := Scalar.addi c0_i32_63 v64
  v65.toNat
@[reducible] def k0_t4_loop : Scf.Loop 32 :=
  let c1_i32_53 : BitVec 32 := 1#32
  let c7_i32_54 : BitVec 32 := 7#32
  let v60 : BitVec 32 := Scalar.addi c1_i32_53 c7_i32_54
  let c1_i32_55 : BitVec 32 := 1#32
  ⟨c1_i32_53, v60, c1_i32_55⟩
def k0_off11 (k0_t4 : Fin k0_t4_loop.trips) : Fin 1 → Nat :=
  let c1_i32_53 : BitVec 32 := 1#32
  let c1_i32_55 : BitVec 32 := 1#32
  let arg13 : BitVec 32 := Scf.iv c1_i32_53 c1_i32_55 k0_t4
  ![arg13.toNat]
def k0_off12 (k0_t4 : Fin k0_t4_loop.trips) : Fin 3 → Nat :=
  let c1_i32_53 : BitVec 32 := 1#32
  let c1_i32_55 : BitVec 32 := 1#32
  let arg13 : BitVec 32 := Scf.iv c1_i32_53 c1_i32_55 k0_t4
  let c0_i32_64 : BitVec 32 := 0#32
  let c0_i32_65 : BitVec 32 := 0#32
  ![arg13.toNat, 0, 0]
def k0_off13 (k0_t4 : Fin k0_t4_loop.trips) : Fin 3 → Nat :=
  let c1_i32_53 : BitVec 32 := 1#32
  let c1_i32_55 : BitVec 32 := 1#32
  let arg13 : BitVec 32 := Scf.iv c1_i32_53 c1_i32_55 k0_t4
  let v73 : Index := Scalar.indexCast arg13
  let c0_68 : Index := 0#32
  let c0_69 : Index := 0#32
  ![v73.toNat, 0, 0]
def k0_off14 (d0 : Dev nD) (k0_t4 : Fin k0_t4_loop.trips) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let c1_i32_55 : BitVec 32 := 1#32
  let arg13 : BitVec 32 := Scf.iv c1_i32_53 c1_i32_55 k0_t4
  let v70 : BitVec 32 := Scalar.subi v2 arg13
  let c8_i32_66 : BitVec 32 := 8#32
  let v71 : BitVec 32 := Scalar.addi v70 c8_i32_66
  let c8_i32_67 : BitVec 32 := 8#32
  let v72 : BitVec 32 := Scalar.remsi v71 c8_i32_67
  let c128_i32_70 : BitVec 32 := 128#32
  let v77 : BitVec 32 := Scalar.muli v72 c128_i32_70
  let v78 : Index := Scalar.indexCast v77
  let c0_71 : Index := 0#32
  ![v78.toNat, 0]
@[reducible] def k0_t5_loop : Scf.Loop 32 :=
  let c1_i32_57 : BitVec 32 := 1#32
  let c7_i32_58 : BitVec 32 := 7#32
  let v61 : BitVec 32 := Scalar.addi c1_i32_57 c7_i32_58
  let c1_i32_59 : BitVec 32 := 1#32
  ⟨c1_i32_57, v61, c1_i32_59⟩
def k0_off15 (k0_t5 : Fin k0_t5_loop.trips) : Fin 1 → Nat :=
  let c1_i32_57 : BitVec 32 := 1#32
  let c1_i32_59 : BitVec 32 := 1#32
  let arg13 : BitVec 32 := Scf.iv c1_i32_57 c1_i32_59 k0_t5
  ![arg13.toNat]
def k0_off16 (k0_t5 : Fin k0_t5_loop.trips) : Fin 3 → Nat :=
  let c1_i32_57 : BitVec 32 := 1#32
  let c1_i32_59 : BitVec 32 := 1#32
  let arg13 : BitVec 32 := Scf.iv c1_i32_57 c1_i32_59 k0_t5
  let c0_i32_63 : BitVec 32 := 0#32
  let c0_i32_64 : BitVec 32 := 0#32
  ![arg13.toNat, 0, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x1024 : Shape := ⟨2, ![1024, 1024]⟩
abbrev S1024x16384 : Shape := ⟨2, ![1024, 16384]⟩
abbrev S16384x1024 : Shape := ⟨2, ![16384, 1024]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x16384, .bf16⟩
  | .hbm, ⟨2, _⟩ => ⟨S1024x16384, .bf16⟩
  | .hbm, ⟨3, _⟩ => ⟨S16384x1024, .bf16⟩
  | .hbm, ⟨4, _⟩ => ⟨S1024x1024, .f32⟩
  | .hbm, ⟨5, _⟩ => ⟨S1024x16384, .f32⟩
  | .hbm, ⟨6, _⟩ => ⟨S1024x16384, .f32⟩
  | .hbm, ⟨7, _⟩ => ⟨S16384x1024, .f32⟩
  | .hbm, ⟨8, _⟩ => ⟨S1024x16384, .f32⟩
  | .hbm, ⟨9, _⟩ => ⟨S1024x16384, .f32⟩
  | .hbm, ⟨10, _⟩ => ⟨S1024x16384, .f32⟩
  | .hbm, ⟨11, _⟩ => ⟨S1024x16384, .f32⟩
  | .hbm, ⟨12, _⟩ => ⟨S_, .f32⟩
  | .hbm, ⟨13, _⟩ => ⟨S1024x16384, .f32⟩
  | .hbm, ⟨14, _⟩ => ⟨S1024x16384, .f32⟩
  | .hbm, ⟨15, _⟩ => ⟨S1024x16384, .f32⟩
  | .hbm, ⟨16, _⟩ => ⟨S1024x16384, .f32⟩
  | .hbm, ⟨17, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Cells.lean ====
/-
# The mesh, the cells and the contents

Eight devices each hold a cut of the weights and the whole of `x`. A device computes, for every 128-row chunk of `x`,
its own partial result; the chunk's owner adds the eight partials up, and the sums are then spread to everyone.
This module names the devices at a distance, the semaphore cells, the landing slots, and the CONTENTS every buffer
holds along the run, as functions of the four arguments — at any float model.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Transfers
public import Idealize.ShloMosaic.Lib.Tactic

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The rounds' resources: the cells are the mesh's semaphores, the duties numbered by distance. -/
abbrev UB : Type := URounds (GSem nD τ sig) (Fin 7)
/-- The pipeline's resources and the rounds'. -/
abbrev UU : Type := UR sig nD τ × UB

local notation "𝕄" => MT nD τ sig Unit (Elt F) ℕ UU ℕ

/-- The pipeline's part of them; -/
abbrev EP : Emb (UR sig nD τ) (MT nD τ sig Unit (Elt F) ℕ UU ℕ) := embL
/-- and the rounds' part. -/
abbrev ER : Emb UB (MT nD τ sig Unit (Elt F) ℕ UU ℕ) := embR

/-- No loop needs a measure. -/
abbrev 𝒱₀ : Variants := Variants.none

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Devices at a distance -/

set_option backward.proofsInPublic true in
/-- The device `t + 1` places after `c`. -/
def nx (c : Dev nD) (t : ℕ) : Dev nD := ⟨(c.val + t + 1) % 8, Nat.mod_lt _ (by decide)⟩
set_option backward.proofsInPublic true in
/-- The device `t + 1` places before `c`. -/
def pv (c : Dev nD) (t : ℕ) : Dev nD := ⟨(c.val + 7 * (t + 1)) % 8, Nat.mod_lt _ (by decide)⟩

/-- The number of the device `t + 1` places after; -/
theorem nx_val (c : Dev nD) (t : ℕ) : (nx c t).val = (c.val + t + 1) % 8 := rfl
/-- and of the device `t + 1` places before. -/
theorem pv_val (c : Dev nD) (t : ℕ) : (pv c t).val = (c.val + 7 * (t + 1)) % 8 := rfl
/-- Forward, then back. -/
theorem pv_nx (c : Dev nD) (t : ℕ) : pv (nx c t) t = c := by
  refine Fin.ext ?_; rw [pv_val, nx_val]; have := c.isLt; simp only [nD] at this; omega
/-- Back, then forward. -/
theorem nx_pv (c : Dev nD) (t : ℕ) : nx (pv c t) t = c := by
  refine Fin.ext ?_; rw [nx_val, pv_val]; have := c.isLt; simp only [nD] at this; omega

/-- Going `t + 1` places forward permutes the devices. -/
def around (t : ℕ) : Dev nD ≃ Dev nD := ⟨fun c => nx c t, fun c => pv c t, fun c => pv_nx c t, fun c => nx_pv c t⟩

/-! ## The loops' trip counts -/

/-- The sending loop makes seven trips. -/
theorem trips1 : k0_t1_loop.trips = 7 := by decide
/-- The adding loop makes seven trips. -/
theorem trips2 : k0_t2_loop.trips = 7 := by decide
/-- The spreading loop makes seven trips. -/
theorem trips3 : k0_t3_loop.trips = 7 := by decide
/-- The collecting loop makes seven trips. -/
theorem trips4 : k0_t4_loop.trips = 7 := by decide
/-- The last loop makes seven trips. -/
theorem trips5 : k0_t5_loop.trips = 7 := by decide

/-! ## The memrefs and the cells -/

/-- The staged `x`; -/
abbrev xM : Memref sig .tc .vmem S1024x1024 .bf16 := Memref.whole cc0_stg0_0
/-- the staged part of `Wg`; -/
abbrev gM : Memref sig .tc .vmem S1024x2048 .bf16 := Memref.whole cc0_stg1_0
/-- of `Wu`; -/
abbrev uM : Memref sig .tc .vmem S1024x2048 .bf16 := Memref.whole cc0_stg2_0
/-- of `Wd`; -/
abbrev dM : Memref sig .tc .vmem S2048x1024 .bf16 := Memref.whole cc0_stg3_0
/-- the staged result. -/
abbrev oM : Memref sig .tc .vmem S1024x1024 .f32 := Memref.whole cc0_stg4_0
/-- The send buffer of the partials. -/
abbrev sM : Memref sig .tc .vmem S8x128x1024 .bf16 := Memref.whole cc0_scratch0
/-- The landing buffer of the partials. -/
abbrev cM : Memref sig .tc .vmem S8x128x1024 .bf16 := Memref.whole cc0_scratch1
/-- The chunk sent around. -/
abbrev aM : Memref sig .tc .vmem S128x1024 .bf16 := Memref.whole cc0_scratch2
/-- The landing buffer of the chunks. -/
abbrev bM : Memref sig .tc .vmem S8x128x1024 .bf16 := Memref.whole cc0_scratch3

/-- The runtime's barrier semaphore. -/
abbrev barS : Sem sig := (SemArray.scalar (sig.barrier 0 rfl) : Sems sig S_).sem

/-- The kernel's transfer semaphores: kind `k` (0 sending partials, 1 receiving them, 2 sending chunks, 3 receiving
    them), place `d`. -/
abbrev sm (k : Fin 4) (d : Fin 8) : DmaSem sig :=
  ⟨5 + 8 * k.val + d.val, by show _ < 37; omega⟩

/-- Device `c`'s barrier cell. -/
abbrev barCell (c : Dev nD) : GSem nD τ sig := ((c : Thread nD τ), .reg barS)
/-- Device `c`'s cell of kind `k` for distance `t + 1`. -/
abbrev cell (k : Fin 4) (c : Dev nD) (t : Fin 7) : GSem nD τ sig := ((c : Thread nD τ), .dma (sm k t.succ))

/-- Every slot lies in the eight-slot buffer. -/
theorem slot_inb (d : Fin 8) : ∀ a, (![d.val, 0, 0] : Fin 3 → Nat) a + S1x128x1024.size a ≤ S8x128x1024.size a := by
  revert d; decide

/-- The rectangle of slot `d`. -/
abbrev slotR (d : Fin 8) : Rect S8x128x1024 := Rect.unit (s := S8x128x1024) ![d.val, 0, 0] S1x128x1024.size (slot_inb d)

/-- Slot `d` of an eight-slot buffer as the transfers address it. -/
abbrev slotM (M : Memref sig .tc .vmem S8x128x1024 .bf16) (d : Fin 8) : Memref sig .tc .vmem S128x1024 .bf16 :=
  (M.slice (slotR d) (fun _ => rfl)).squeeze S128x1024 squeezes_S1x128x1024_S128x1024

/-- Every row chunk lies in the whole array. -/
theorem row_inb (j : Dev nD) : ∀ a, (![128 * j.val, 0] : Fin 2 → Nat) a + S128x1024.size a ≤ S1024x1024.size a := by
  revert j; decide

/-- The rectangle of row chunk `j`. -/
abbrev rowR (j : Dev nD) : Rect S1024x1024 := Rect.unit (s := S1024x1024) ![128 * j.val, 0] S128x1024.size (row_inb j)

/-- The credit of one slot's transfer. -/
abbrev N : ℕ := (slotM cM 0).view.dmaCredit
/-- That credit is positive. -/
theorem N_pos : 0 < N := View.dmaCredit_pos _ (by decide)

/-! ## Contents -/

/-- Device `c`'s staged copies of the arguments: `x`; -/
def xs (c : Dev nD) : (cc0_stg0_0 : Ref sig .tc).ty.Contents (Elt F) :=
  (win0_0.blk (0 : Fin 1)).view.read (Elt F) ((s₀ m ρ).mem ((c : Thread nD τ).loc main_arg0))
/-- The staged part of `Wg`; -/
def wg (c : Dev nD) : (cc0_stg1_0 : Ref sig .tc).ty.Contents (Elt F) :=
  (win0_1.blk (0 : Fin 1)).view.read (Elt F) ((s₀ m ρ).mem ((c : Thread nD τ).loc main_arg1))
/-- of `Wu`; -/
def wu (c : Dev nD) : (cc0_stg2_0 : Ref sig .tc).ty.Contents (Elt F) :=
  (win0_2.blk (0 : Fin 1)).view.read (Elt F) ((s₀ m ρ).mem ((c : Thread nD τ).loc main_arg2))
/-- of `Wd`. -/
def wd (c : Dev nD) : (cc0_stg3_0 : Ref sig .tc).ty.Contents (Elt F) :=
  (win0_3.blk (0 : Fin 1)).view.read (Elt F) ((s₀ m ρ).mem ((c : Thread nD τ).loc main_arg3))

/-- Row chunk `j` of `x` as device `c` stages it. -/
def xrow (c j : Dev nD) : Vec F S128x1024 .bf16 := (xM : Memref sig .tc .vmem S1024x1024 .bf16).view.readAt (Elt F) (rowR j).toLoadRect (xs m ρ c)

/-- Device `c`'s partial result for row chunk `j`, as it sends it. -/
def part (c j : Dev nD) : Vec F S1x128x1024 .bf16 := k0_pay3 (xrow m ρ c j) (wg m ρ c) (wu m ρ c) (wd m ρ c)
/-- Device `c`'s partial result for its own row chunk, before any rounding to be sent. -/
def own (c : Dev nD) : FVec F S128x1024 .f32 := k0_pay4 (xrow m ρ c c) (wg m ρ c) (wu m ρ c) (wd m ρ c)
/-- Device `c`'s sum after the partials from the `k` devices before it. -/
def red (c : Dev nD) : ℕ → FVec F S128x1024 .f32
  | 0 => own m ρ c
  | k + 1 => k0_pay5 (red c k) (part m ρ (pv c k) c)
/-- The chunk device `c` spreads. -/
def chunk (c : Dev nD) : Vec F S128x1024 .bf16 := k0_pay1 (red m ρ c 7)

/-- An index of an eight-slot buffer within its slot. -/
def inSlot (i : S8x128x1024.Idx) : S1x128x1024.Idx := fun a => match a with
  | ⟨0, _⟩ => ⟨0, Nat.one_pos⟩
  | ⟨1, _⟩ => ⟨(i 1).val, (i 1).isLt⟩
  | ⟨2, _⟩ => ⟨(i 2).val, (i 2).isLt⟩
/-- An index of the result within its row chunk. -/
def inRow (i : S1024x1024.Idx) : S128x1024.Idx := fun a => match a with
  | ⟨0, _⟩ => ⟨(i 0).val % 128, Nat.mod_lt _ (by decide)⟩
  | ⟨1, _⟩ => ⟨(i 1).val, (i 1).isLt⟩
/-- The row chunk an index of the result lies in. -/
def rowOf (i : S1024x1024.Idx) : Dev nD := ⟨(i 0).val / 128, by have : (i 0).val < 1024 := (i 0).isLt; show _ < 8; omega⟩

/-- Device `c`'s send buffer: slot `d` holds its partial for the device `d` places after it. -/
def sF (c : Dev nD) : (cc0_scratch0 : Ref sig .tc).ty.Contents (Elt F) :=
  fun i : S8x128x1024.Idx => part m ρ c (nx c ((i 0).val + 7)) (inSlot i)
/-- Device `c`'s landing buffer: slot `d` holds the partial of the device `d` places before it. -/
def cF (c : Dev nD) : (cc0_scratch1 : Ref sig .tc).ty.Contents (Elt F) :=
  fun i : S8x128x1024.Idx => part m ρ (pv c ((i 0).val + 7)) c (inSlot i)
/-- The chunk with a leading axis, as a slot holds it. -/
def chunk1 (c : Dev nD) : Vec F S1x128x1024 .bf16 := shapeCast S1x128x1024 (chunk m ρ c) shapeCasts_S128x1024_S1x128x1024
/-- Device `c`'s landing buffer of chunks: slot `d` holds the chunk of the device `d` places before it. -/
def bF (c : Dev nD) : (cc0_scratch3 : Ref sig .tc).ty.Contents (Elt F) :=
  fun i : S8x128x1024.Idx => chunk1 m ρ (pv c ((i 0).val + 7)) (inSlot i)
/-- Device `c`'s result: its own chunk as summed, every other as it was spread. -/
def oF (c : Dev nD) : (cc0_stg4_0 : Ref sig .tc).ty.Contents (Elt F) :=
  fun i : S1024x1024.Idx => if rowOf i = c then red m ρ c 7 (inRow i) else k0_pay2 (chunk1 m ρ (rowOf i)) (inRow i)

end Cert.Mlp
-- ==== Proof.Slots.lean ====
/-
# Slots: what a store, a landing and a read see of the contents

An eight-slot buffer is held slot by slot; a slot stored or landed on agrees with the contents `Cells` names.
-/
module

public import proofs.«01_k».proof.Proof.Cells

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Indices -/

/-- A slot's index within the slot is the rectangle's own; -/
theorem inSlot_emb (d : Fin 8) (y : S1x128x1024.Idx) : inSlot ((slotR d).emb y) = y := by
  funext a
  match a with
  | ⟨0, _⟩ => exact Fin.ext (by have : (y 0).val < 1 := (y 0).isLt; show 0 = (y 0).val; omega)
  | ⟨1, _⟩ => exact Fin.ext (by show 0 + 1 * (y 1).val = (y 1).val; omega)
  | ⟨2, _⟩ => exact Fin.ext (by show 0 + 1 * (y 2).val = (y 2).val; omega)

/-- and its leading coordinate is the slot's number. -/
theorem emb_lead (d : Fin 8) (y : S1x128x1024.Idx) : ((slotR d).emb y 0).val = d.val := by
  have : (y 0).val < 1 := (y 0).isLt
  show d.val + 1 * (y 0).val = d.val; omega

/-- Slot `t + 1` belongs to the device `t + 1` places after; -/
theorem nx_slot (c : Dev nD) (t : Fin 7) : nx c (t.succ.val + 7) = nx c t.val :=
  Fin.ext (by rw [nx_val, nx_val, Fin.val_succ]; omega)
/-- or before. -/
theorem pv_slot (c : Dev nD) (t : Fin 7) : pv c (t.succ.val + 7) = pv c t.val :=
  Fin.ext (by rw [pv_val, pv_val, Fin.val_succ]; omega)

/-- The send buffer's contents at a slot's index. -/
theorem sF_emb (c : Dev nD) (t : Fin 7) (y : S1x128x1024.Idx) : sF m ρ c ((slotR t.succ).emb y) = part m ρ c (nx c t.val) y := by
  unfold sF; rw [inSlot_emb, emb_lead, nx_slot]
/-- The landing buffer's contents at a slot's index. -/
theorem cF_emb (c : Dev nD) (t : Fin 7) (y : S1x128x1024.Idx) : cF m ρ c ((slotR t.succ).emb y) = part m ρ (pv c t.val) c y := by
  unfold cF; rw [inSlot_emb, emb_lead, pv_slot]
/-- The contents of the landing buffer of chunks at a slot's index. -/
theorem bF_emb (c : Dev nD) (t : Fin 7) (y : S1x128x1024.Idx) : bF m ρ c ((slotR t.succ).emb y) = chunk1 m ρ (pv c t.val) y := by
  unfold bF; rw [inSlot_emb, emb_lead, pv_slot]

/-! ## A slot held -/

/-- Slot `d` of device `c`'s send buffer, at contents `f`. -/
def sPt (c : Dev nD) (d : Fin 8) (f : Buf (Elt F) ((slotM sM d).view.loc (c : Thread nD τ))) : sProp 𝕄 :=
  (slotM sM d).view.loc (c : Thread nD τ) ↦[(slotM sM d).view.set]{fullShare} f
/-- Slot `d` of its landing buffer, at contents `f`. -/
def cPt (c : Dev nD) (d : Fin 8) (f : Buf (Elt F) ((slotM cM d).view.loc (c : Thread nD τ))) : sProp 𝕄 :=
  (slotM cM d).view.loc (c : Thread nD τ) ↦[(slotM cM d).view.set]{fullShare} f
/-- Slot `d` of its landing buffer of chunks, at contents `f`. -/
def bPt (c : Dev nD) (d : Fin 8) (f : Buf (Elt F) ((slotM bM d).view.loc (c : Thread nD τ))) : sProp 𝕄 :=
  (slotM bM d).view.loc (c : Thread nD τ) ↦[(slotM bM d).view.set]{fullShare} f
/-- The chunk device `c` spreads, at the share the transfer over distance `t + 1` reads it under. -/
def aTok (c : Dev nD) (t : Fin 7) : sProp 𝕄 :=
  (aM : Memref sig .tc .vmem S128x1024 .bf16).view.loc (c : Thread nD τ)
    ↦[(aM : Memref sig .tc .vmem S128x1024 .bf16).view.set]{Transfers.shareTok fullShare 7 t} chunk m ρ c

omit [FloatOps F] in
/-- A slot of the send buffer can be kept in an invariant; -/
instance sPt_storable (c : Dev nD) (d f) : BI.Storable (upEmb : UEmb _ 𝕄) (sPt (F := F) c d f) := by unfold sPt; infer_instance
omit [FloatOps F] in
/-- so can one of the landing buffer; -/
instance cPt_storable (c : Dev nD) (d f) : BI.Storable (upEmb : UEmb _ 𝕄) (cPt (F := F) c d f) := by unfold cPt; infer_instance
omit [FloatOps F] in
/-- one of the landing buffer of chunks; -/
instance bPt_storable (c : Dev nD) (d f) : BI.Storable (upEmb : UEmb _ 𝕄) (bPt (F := F) c d f) := by unfold bPt; infer_instance
/-- and a share of the chunk. -/
instance aTok_storable (c : Dev nD) (t) : BI.Storable (upEmb : UEmb _ 𝕄) (aTok (F := F) m ρ c t) := by unfold aTok; infer_instance

/-- The elements under a slot are those under its rectangle. -/
theorem slot_set (M : Memref sig .tc .vmem S8x128x1024 .bf16) (d : Fin 8) :
    (slotM M d).view.set = M.view.setOn (slotR d).set :=
  (View.set_reshape _ _).trans (View.set_slice _ _)

/-- Different slots are disjoint. -/
theorem slot_disjoint (d d' : Fin 8) (h : d ≠ d') : Disjoint (slotR d).set (slotR d').set :=
  Ring.lead_disjoint (s := S8x128x1024) (0 : Fin 3) 1 (fun d : Fin 8 => ![d.val, 0, 0]) S1x128x1024.size slot_inb
    (fun d => (Nat.one_mul _).symm) rfl d d' h
/-- The slots cover the buffer. -/
theorem slot_cover : Finset.univ.biUnion (fun d : Fin 8 => (slotR d).set) = Finset.univ :=
  Ring.lead_cover (s := S8x128x1024) (0 : Fin 3) 1 (fun d : Fin 8 => ![d.val, 0, 0]) S1x128x1024.size slot_inb
    (fun d => (Nat.one_mul _).symm) (fun d a ha => by fin_cases a <;> first | rfl | exact absurd rfl ha) rfl
    (fun a ha => by fin_cases a <;> first | rfl | exact absurd rfl ha) rfl

/-- A conjunction over `n + 1` indices, the first taken out. -/
theorem bigSep_succ {M : Type} [URA M] {n : Nat} (Φ : Fin (n + 1) → sProp M) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

/-! ## A buffer whole is its slots -/

omit [FloatOps F] in
/-- A slot of the send buffer is the buffer on the slot's rectangle. -/
theorem sPt_eq (c : Dev nD) (d : Fin 8) (f : Buf (Elt F) ((c : Thread nD τ).loc cc0_scratch0)) :
    sPt c d f = (((c : Thread nD τ).loc cc0_scratch0) ↦[(slotR d).set]{fullShare} f : sProp 𝕄) := by
  unfold sPt
  rw [show (slotM sM d).view.set = (slotR d).set from (View.set_reshape _ _).trans (View.set_slice_whole _ _)]
omit [FloatOps F] in
/-- The send buffer held whole is its slot 0 and the seven slots the transfers use. -/
theorem s_split (c : Dev nD) (f : Buf (Elt F) ((c : Thread nD τ).loc cc0_scratch0)) :
    (((c : Thread nD τ).loc cc0_scratch0) ↦{fullShare} f : sProp 𝕄) = iprop(sPt c 0 f ∗ bigSep Finset.univ fun t : Fin 7 => sPt c t.succ f) := by
  rw [Ring.pointsTo_blocks (fun d : Fin 8 => ((slotR d).set : Finset (Idx ((c : Thread nD τ).loc cc0_scratch0)))) slot_disjoint slot_cover, bigSep_succ,
    ← sPt_eq c 0 f, bigSep_congr fun (t : Fin 7) _ => ((sPt_eq c t.succ f).symm)]
omit [FloatOps F] in
/-- Its slots, each at contents of its own, are the buffer whole at some contents. -/
theorem s_join (c : Dev nD) (f₀ : Buf (Elt F) ((c : Thread nD τ).loc cc0_scratch0)) (fs : Fin 7 → Buf (Elt F) ((c : Thread nD τ).loc cc0_scratch0)) :
    iprop(sPt c 0 f₀ ∗ bigSep Finset.univ fun t : Fin 7 => sPt c t.succ (fs t)) ⊢ (iprop(∃ g, ((c : Thread nD τ).loc cc0_scratch0) ↦{fullShare} g) : sProp 𝕄) := by
  refine BIBase.Entails.trans ?_ (Ring.pointsTo_blocks_join (fun d : Fin 8 => ((slotR d).set : Finset (Idx ((c : Thread nD τ).loc cc0_scratch0)))) slot_disjoint slot_cover
    (Fin.cons (α := fun _ => Buf (Elt F) ((c : Thread nD τ).loc cc0_scratch0)) f₀ fs) f₀)
  rw [bigSep_succ (n := 7), sPt_eq, bigSep_congr (s := (Finset.univ : Finset (Fin 7))) fun t _ => sPt_eq c t.succ (fs t)]
  exact BIBase.Entails.refl

omit [FloatOps F] in
/-- A slot of the landing buffer is the buffer on the slot's rectangle. -/
theorem cPt_eq (c : Dev nD) (d : Fin 8) (f : Buf (Elt F) ((c : Thread nD τ).loc cc0_scratch1)) :
    cPt c d f = (((c : Thread nD τ).loc cc0_scratch1) ↦[(slotR d).set]{fullShare} f : sProp 𝕄) := by
  unfold cPt
  rw [show (slotM cM d).view.set = (slotR d).set from (View.set_reshape _ _).trans (View.set_slice_whole _ _)]
omit [FloatOps F] in
/-- The landing buffer held whole is its slot 0 and the seven slots the transfers use. -/
theorem c_split (c : Dev nD) (f : Buf (Elt F) ((c : Thread nD τ).loc cc0_scratch1)) :
    (((c : Thread nD τ).loc cc0_scratch1) ↦{fullShare} f : sProp 𝕄) = iprop(cPt c 0 f ∗ bigSep Finset.univ fun t : Fin 7 => cPt c t.succ f) := by
  rw [Ring.pointsTo_blocks (fun d : Fin 8 => ((slotR d).set : Finset (Idx ((c : Thread nD τ).loc cc0_scratch1)))) slot_disjoint slot_cover, bigSep_succ,
    ← cPt_eq c 0 f, bigSep_congr fun (t : Fin 7) _ => ((cPt_eq c t.succ f).symm)]
omit [FloatOps F] in
/-- Its slots, each at contents of its own, are the buffer whole at some contents. -/
theorem c_join (c : Dev nD) (f₀ : Buf (Elt F) ((c : Thread nD τ).loc cc0_scratch1)) (fs : Fin 7 → Buf (Elt F) ((c : Thread nD τ).loc cc0_scratch1)) :
    iprop(cPt c 0 f₀ ∗ bigSep Finset.univ fun t : Fin 7 => cPt c t.succ (fs t)) ⊢ (iprop(∃ g, ((c : Thread nD τ).loc cc0_scratch1) ↦{fullShare} g) : sProp 𝕄) := by
  refine BIBase.Entails.trans ?_ (Ring.pointsTo_blocks_join (fun d : Fin 8 => ((slotR d).set : Finset (Idx ((c : Thread nD τ).loc cc0_scratch1)))) slot_disjoint slot_cover
    (Fin.cons (α := fun _ => Buf (Elt F) ((c : Thread nD τ).loc cc0_scratch1)) f₀ fs) f₀)
  rw [bigSep_succ (n := 7), cPt_eq, bigSep_congr (s := (Finset.univ : Finset (Fin 7))) fun t _ => cPt_eq c t.succ (fs t)]
  exact BIBase.Entails.refl

omit [FloatOps F] in
/-- A slot of the landing buffer of chunks is the buffer on the slot's rectangle. -/
theorem bPt_eq (c : Dev nD) (d : Fin 8) (f : Buf (Elt F) ((c : Thread nD τ).loc cc0_scratch3)) :
    bPt c d f = (((c : Thread nD τ).loc cc0_scratch3) ↦[(slotR d).set]{fullShare} f : sProp 𝕄) := by
  unfold bPt
  rw [show (slotM bM d).view.set = (slotR d).set from (View.set_reshape _ _).trans (View.set_slice_whole _ _)]
omit [FloatOps F] in
/-- The landing buffer of chunks held whole is its slot 0 and the seven slots the transfers use. -/
theorem b_split (c : Dev nD) (f : Buf (Elt F) ((c : Thread nD τ).loc cc0_scratch3)) :
    (((c : Thread nD τ).loc cc0_scratch3) ↦{fullShare} f : sProp 𝕄) = iprop(bPt c 0 f ∗ bigSep Finset.univ fun t : Fin 7 => bPt c t.succ f) := by
  rw [Ring.pointsTo_blocks (fun d : Fin 8 => ((slotR d).set : Finset (Idx ((c : Thread nD τ).loc cc0_scratch3)))) slot_disjoint slot_cover, bigSep_succ,
    ← bPt_eq c 0 f, bigSep_congr fun (t : Fin 7) _ => ((bPt_eq c t.succ f).symm)]
omit [FloatOps F] in
/-- Its slots, each at contents of its own, are the buffer whole at some contents. -/
theorem b_join (c : Dev nD) (f₀ : Buf (Elt F) ((c : Thread nD τ).loc cc0_scratch3)) (fs : Fin 7 → Buf (Elt F) ((c : Thread nD τ).loc cc0_scratch3)) :
    iprop(bPt c 0 f₀ ∗ bigSep Finset.univ fun t : Fin 7 => bPt c t.succ (fs t)) ⊢ (iprop(∃ g, ((c : Thread nD τ).loc cc0_scratch3) ↦{fullShare} g) : sProp 𝕄) := by
  refine BIBase.Entails.trans ?_ (Ring.pointsTo_blocks_join (fun d : Fin 8 => ((slotR d).set : Finset (Idx ((c : Thread nD τ).loc cc0_scratch3)))) slot_disjoint slot_cover
    (Fin.cons (α := fun _ => Buf (Elt F) ((c : Thread nD τ).loc cc0_scratch3)) f₀ fs) f₀)
  rw [bigSep_succ (n := 7), bPt_eq, bigSep_congr (s := (Finset.univ : Finset (Fin 7))) fun t _ => bPt_eq c t.succ (fs t)]
  exact BIBase.Entails.refl

/-! ## Stores, landings and reads -/

/-- An element under a slot's rectangle is at an index of the slot. -/
theorem slot_mem {d : Fin 8} {i : S8x128x1024.Idx} (h : i ∈ (slotR d).set) : ∃ y, (slotR d).emb y = i := by
  rw [← Rect.map_emb_univ] at h
  obtain ⟨y, -, hy⟩ := Finset.mem_map.mp h; exact ⟨y, hy⟩

omit [FloatOps F] in
/-- Contents that agree on a slot of the send buffer are interchangeable in it. -/
theorem sPt_congr (c : Dev nD) (d : Fin 8) (f g : (cc0_scratch0 : Ref sig .tc).ty.Contents (Elt F)) (h : ∀ y : S1x128x1024.Idx, f ((slotR d).emb y) = g ((slotR d).emb y)) :
    (sPt c d f : sProp 𝕄) = sPt c d g := by
  rw [sPt_eq, sPt_eq]; exact pointsTo_congr fun i hi => by obtain ⟨y, rfl⟩ := slot_mem hi; exact h y
omit [FloatOps F] in
/-- Contents that agree on a slot of the landing buffer are interchangeable in it. -/
theorem cPt_congr (c : Dev nD) (d : Fin 8) (f g : (cc0_scratch1 : Ref sig .tc).ty.Contents (Elt F)) (h : ∀ y : S1x128x1024.Idx, f ((slotR d).emb y) = g ((slotR d).emb y)) :
    (cPt c d f : sProp 𝕄) = cPt c d g := by
  rw [cPt_eq, cPt_eq]; exact pointsTo_congr fun i hi => by obtain ⟨y, rfl⟩ := slot_mem hi; exact h y
omit [FloatOps F] in
/-- Contents that agree on a slot of the landing buffer of chunks are interchangeable in it. -/
theorem bPt_congr (c : Dev nD) (d : Fin 8) (f g : (cc0_scratch3 : Ref sig .tc).ty.Contents (Elt F)) (h : ∀ y : S1x128x1024.Idx, f ((slotR d).emb y) = g ((slotR d).emb y)) :
    (bPt c d f : sProp 𝕄) = bPt c d g := by
  rw [bPt_eq, bPt_eq]; exact pointsTo_congr fun i hi => by obtain ⟨y, rfl⟩ := slot_mem hi; exact h y

/-- Storing the partial for the device `t + 1` places on makes the slot the send buffer's. -/
theorem s_stored (c : Dev nD) (t : Fin 7) (f : (cc0_scratch0 : Ref sig .tc).ty.Contents (Elt F)) :
    (sPt c t.succ ((sM.access (slotR t.succ)).write (Elt F) f (part m ρ c (nx c t.val)) Finset.univ) : sProp 𝕄) = sPt c t.succ (sF m ρ c) :=
  sPt_congr c t.succ _ _ fun y => by
    rw [sF_emb]; exact View.write_emb_of_mem (v := (sM.access (slotR t.succ) : View sig .tc _ _ _)) f _ (Finset.mem_univ y)

/-- A partial landed is the landing buffer's slot on the device it was sent to. -/
theorem c_landed (c : Dev nD) (t : Fin 7) (f : (cc0_scratch1 : Ref sig .tc).ty.Contents (Elt F)) :
    (cPt (nx c t.val) t.succ ((slotM cM t.succ).view.write (Elt F) f ((slotM sM t.succ).view.read (Elt F) (sF m ρ c)) Finset.univ) : sProp 𝕄)
      = cPt (nx c t.val) t.succ (cF m ρ (nx c t.val)) :=
  cPt_congr _ t.succ _ _ fun y => by
    rw [cF_emb, pv_nx]
    obtain ⟨x, rfl⟩ := (Shape.reshapeEquiv squeezes_S1x128x1024_S128x1024.numel_eq).surjective y
    refine (View.write_emb_of_mem (v := (slotM cM t.succ).view) f _ (Finset.mem_univ x)).trans ?_
    exact sF_emb m ρ c t _

/-- A chunk landed is the slot of the landing buffer of chunks on the device it was sent to. -/
theorem b_landed (c : Dev nD) (t : Fin 7) (f : (cc0_scratch3 : Ref sig .tc).ty.Contents (Elt F)) :
    (bPt (nx c t.val) t.succ ((slotM bM t.succ).view.write (Elt F) f ((aM : Memref sig .tc .vmem S128x1024 .bf16).view.read (Elt F) (chunk m ρ c)) Finset.univ) : sProp 𝕄)
      = bPt (nx c t.val) t.succ (bF m ρ (nx c t.val)) :=
  bPt_congr _ t.succ _ _ fun y => by
    rw [bF_emb, pv_nx]
    obtain ⟨x, rfl⟩ := (Shape.reshapeEquiv squeezes_S1x128x1024_S128x1024.numel_eq).surjective y
    refine (View.write_emb_of_mem (v := (slotM bM t.succ).view) f _ (Finset.mem_univ x)).trans ?_
    exact (congrFun (shapeCast_shapeCast (chunk m ρ c) shapeCasts_S128x1024_S1x128x1024 shapeCasts_S1x128x1024_S128x1024) x).symm

/-- What the load of a landed partial reads. -/
theorem c_read (c : Dev nD) (t : Fin 7) : cM.view.readAt (Elt F) (slotR t.succ).toLoadRect (cF m ρ c) = part m ρ (pv c t.val) c :=
  funext fun y => cF_emb m ρ c t y
/-- What the load of a landed chunk reads. -/
theorem b_read (c : Dev nD) (t : Fin 7) : bM.view.readAt (Elt F) (slotR t.succ).toLoadRect (bF m ρ c) = chunk1 m ρ (pv c t.val) :=
  funext fun y => bF_emb m ρ c t y

/-! ## The result's rows -/

/-- An index of row chunk `j` lies under its rectangle, at its place within the chunk. -/
theorem row_mem {j : Dev nD} {i : S1024x1024.Idx} (h : rowOf i = j) : ∃ y, (rowR j).emb y = i ∧ y = inRow i := by
  refine ⟨inRow i, funext fun a => ?_, rfl⟩
  subst h
  match a with
  | ⟨0, _⟩ => exact Fin.ext (by show 128 * ((i 0).val / 128) + 1 * ((i 0).val % 128) = (i 0).val; omega)
  | ⟨1, _⟩ => exact Fin.ext (by show 0 + 1 * (i 1).val = (i 1).val; omega)

/-- What lies under the rectangle of row chunk `j` is in row chunk `j`. -/
theorem row_of_emb (j : Dev nD) (y : S128x1024.Idx) : rowOf ((rowR j).emb y) = j := by
  refine Fin.ext ?_
  have : (y 0).val < 128 := (y 0).isLt
  show (128 * j.val + 1 * (y 0).val) / 128 = j.val
  omega

omit [FloatOps F] in
/-- A store of a row chunk: its rows hold the payload, every other row what it held. -/
theorem row_write (j : Dev nD) (f : (cc0_stg4_0 : Ref sig .tc).ty.Contents (Elt F)) (w : FVec F S128x1024 .f32) (i : S1024x1024.Idx) :
    (oM.access (rowR j)).write (Elt F) f w Finset.univ i = if rowOf i = j then w (inRow i) else f i := by
  by_cases h : rowOf i = j
  · rw [if_pos h]
    obtain ⟨y, rfl, hy⟩ := row_mem h
    rw [← hy]
    exact View.write_emb_of_mem (v := (oM.access (rowR j) : View sig .tc _ _ _)) f w (Finset.mem_univ y)
  · rw [if_neg h]
    refine View.write_of_not_mem (v := (oM.access (rowR j) : View sig .tc _ _ _)) f w Finset.univ fun hm => h ?_
    obtain ⟨y, -, rfl⟩ := Finset.mem_map.mp hm
    exact row_of_emb j y

end Cert.Mlp
-- ==== Proof.Schedule.lean ====
/-
# The protocol

Per device `c`, with `t + 1` running over the distances 1 to 7:

* the BARRIER cell expects seven units, one from every other device. Duty `t` is paid by the device `t + 1` places
  after `c`, and hands over that device's two landing slots that `c` will write at that distance;
* the cell of kind 1 (partials received) is paid by the landing of the partial of the device `t + 1` places before
  `c`, and hands over the landing slot holding it;
* the cell of kind 3 (chunks received) likewise, with the chunk of the device `t + 1` places before;
* the cells of kinds 0 and 2 (sent) hand the source of the transfer back: the send buffer's slot; the share of the
  chunk the transfer read it under.

A device waits for its barrier first, then for the partials, then for the chunks, then for its own sends, so the
levels are: barrier 1, partials received 2, chunks received 3, everything else 0.
-/
module

public import proofs.«01_k».proof.Proof.Slots

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The payloads -/

/-- Which transfer cell a semaphore is: its kind and its distance. -/
def which : SemLoc sig → Option (Fin 4 × Fin 7)
  | .reg _ => none
  | .dma q => if h : 5 ≤ q.val ∧ q.val < 37 ∧ 1 ≤ (q.val - 5) % 8 then
      some (⟨(q.val - 5) / 8, by omega⟩, ⟨(q.val - 5) % 8 - 1, by omega⟩) else none

/-- The semaphore of kind `k` and distance `t + 1` is found as such. -/
theorem which_cell (k : Fin 4) (t : Fin 7) : which (.dma (sm k t.succ)) = some (k, t) := by revert k t; decide
/-- Different kinds or distances have different semaphores. -/
theorem sm_inj : Function.Injective fun kt : Fin 4 × Fin 7 => (SemLoc.dma (sm kt.1 kt.2.succ) : SemLoc sig) := fun a b h => by
  have := congrArg which h
  rw [which_cell, which_cell] at this
  exact Option.some.inj this
/-- No transfer semaphore is the barrier. -/
theorem dma_ne_bar (q : DmaSem sig) : (SemLoc.dma q : SemLoc sig) ≠ .reg barS := fun h => by cases h

/-- What duty `t` of device `c`'s barrier hands `c`: the two landing slots it will write `t + 1` places after itself. -/
def barPay (c : Dev nD) (t : Fin 7) : sProp 𝕄 := iprop((∃ f, cPt (nx c t.val) t.succ f) ∗ ∃ f, bPt (nx c t.val) t.succ f)

/-- What a transfer cell hands its owner. -/
def xferPay (c : Dev nD) (kt : Fin 4 × Fin 7) : sProp 𝕄 := match kt.1 with
  | 0 => sPt c kt.2.succ (sF m ρ c)
  | 1 => cPt c kt.2.succ (cF m ρ c)
  | 2 => aTok m ρ c kt.2
  | 3 => bPt c kt.2.succ (bF m ρ c)

omit [FloatOps F] in
/-- What the barrier hands over can be kept in an invariant. -/
instance barPay_storable (c : Dev nD) (t) : BI.Storable (upEmb : UEmb _ 𝕄) (barPay (F := F) c t) := by unfold barPay; infer_instance
/-- So can what a transfer hands over. -/
instance xferPay_storable (c : Dev nD) (kt) : BI.Storable (upEmb : UEmb _ 𝕄) (xferPay (F := F) m ρ c kt) := by
  unfold xferPay; split <;> infer_instance

/-! ## The schedule -/

/-- One round: a barrier cell has seven duties of one unit, a transfer cell one duty of a slot's credit. -/
def sched : Rounds.Schedule (GSem nD τ sig) (Fin 7) 𝕄 where
  duties g r := if r = 0 ∧ g.1.2 = .tc then (if g.2 = .reg barS then Finset.univ else (if (which g.2).isSome then {0} else ∅)) else ∅
  unitless _ := False
  amount g _ _ := if g.2 = .reg barS then 1 else N
  payload g _ d := if g.2 = .reg barS then barPay g.1.1 d else (which g.2).elim iprop(emp) fun kt => xferPay m ρ g.1.1 kt
  amount_pos g _ _ _ := by
    split
    · exact Nat.one_pos
    · exact N_pos

/-- So can every payload of the schedule. -/
instance sched_storable (g : GSem nD τ sig) (r : ℕ) (d : Fin 7) : BI.Storable (upEmb : UEmb _ 𝕄) ((sched (F := F) m ρ).payload g r d) := by
  show BI.Storable upEmb (if g.2 = .reg barS then barPay g.1.1 d else (which g.2).elim iprop(emp) fun kt => xferPay m ρ g.1.1 kt)
  split
  · infer_instance
  · cases which g.2 with
    | none => exact (inferInstance : BI.Storable upEmb (iprop(emp) : sProp 𝕄))
    | some kt => exact xferPay_storable m ρ g.1.1 kt

section Tables
variable (c : Dev nD) (k : Fin 4) (t : Fin 7)

/-- A barrier has all seven duties. -/
theorem duties_bar : (sched (F := F) m ρ).duties (barCell c) 0 = Finset.univ := by
  dsimp only [sched]; rw [if_pos ⟨rfl, rfl⟩, if_pos rfl]
/-- A transfer cell has one duty. -/
theorem duties_cell : (sched (F := F) m ρ).duties (cell k c t) 0 = {0} := by
  dsimp only [sched]; rw [if_pos ⟨rfl, rfl⟩, if_neg (dma_ne_bar _), which_cell]; rfl
/-- After round 0 there is none. -/
theorem duties_later (g : GSem nD τ sig) : ∀ r, 1 ≤ r → (sched (F := F) m ρ).duties g r = ∅ := fun r hr => by
  dsimp only [sched]; rw [if_neg fun h => by omega]
/-- A barrier's duty is one unit. -/
theorem amount_bar (d : Fin 7) : (sched (F := F) m ρ).amount (barCell c) 0 d = 1 := by dsimp only [sched]; exact if_pos rfl
/-- A transfer cell's duty is a slot's credit. -/
theorem amount_cell (d : Fin 7) : (sched (F := F) m ρ).amount (cell k c t) 0 d = N := by dsimp only [sched]; exact if_neg (dma_ne_bar _)
/-- What a barrier's duty hands over. -/
theorem payload_bar (d : Fin 7) : (sched (F := F) m ρ).payload (barCell c) 0 d = barPay c d := by dsimp only [sched]; exact if_pos rfl
/-- What a transfer cell's duty hands over. -/
theorem payload_cell (d : Fin 7) : (sched (F := F) m ρ).payload (cell k c t) 0 d = xferPay m ρ c (k, t) := by
  dsimp only [sched]; rw [if_neg (dma_ne_bar _), which_cell]; rfl

/-- A barrier expects seven units. -/
theorem expect_bar : (sched (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
/-- A transfer cell expects a slot's credit. -/
theorem expect_cell : (sched (F := F) m ρ).expect (cell k c t) 0 = N := by
  unfold Schedule.expect Schedule.amountOf; rw [duties_cell, Finset.sum_singleton, amount_cell]

/-- Waiting for the whole of a barrier's round hands over every landing slot the device will write; -/
theorem rest_bar : bigSep ((sched (F := F) m ρ).duties (barCell c) 0 \ ∅) (fun d => (sched (F := F) m ρ).payload (barCell c) 0 d)
    = bigSep Finset.univ fun t : Fin 7 => barPay c t := by
  rw [Finset.sdiff_empty, duties_bar]; exact bigSep_congr fun d _ => payload_bar m ρ c d
/-- and for a transfer cell's, what the transfer hands over. -/
theorem rest_cell : bigSep ((sched (F := F) m ρ).duties (cell k c t) 0 \ ∅) (fun d => (sched (F := F) m ρ).payload (cell k c t) 0 d)
    = xferPay m ρ c (k, t) := by
  rw [Finset.sdiff_empty, duties_cell, bigSep_singleton, payload_cell]

end Tables

/-! ## The distances already dealt with, and those to come -/

/-- The distances of the trips before `k`. -/
def lt (k : ℕ) : Finset (Fin 7) := Finset.univ.filter fun t => t.val < k
/-- The distances of trip `k` and after. -/
def ge (k : ℕ) : Finset (Fin 7) := Finset.univ.filter fun t => k ≤ t.val

/-- Before trip 0 there is none. -/
theorem lt_zero : lt 0 = ∅ := by decide
/-- Before trip 7 there are all. -/
theorem lt_seven : lt 7 = Finset.univ := by decide
/-- From trip 0 on there are all. -/
theorem ge_zero : ge 0 = Finset.univ := by decide
/-- From trip 7 on there is none. -/
theorem ge_seven : ge 7 = ∅ := by decide
/-- Trip `t`'s distance is not one of those before it; -/
theorem not_mem_lt (t : Fin 7) : t ∉ lt t.val := by unfold lt; simp
/-- nor one of those after it. -/
theorem not_mem_ge (t : Fin 7) : t ∉ ge (t.val + 1) := by unfold ge; simp
/-- Those up to trip `t` are its own and those before; -/
theorem lt_succ (t : Fin 7) : lt (t.val + 1) = insert t (lt t.val) := by revert t; decide
/-- those from trip `t` on are its own and those after. -/
theorem ge_self (t : Fin 7) : ge t.val = insert t (ge (t.val + 1)) := by revert t; decide

/-- A conjunction over the trips up to `t`, trip `t` taken out; -/
theorem bigSep_lt {M : Type} [URA M] (t : Fin 7) (Φ : Fin 7 → sProp M) : bigSep (lt (t.val + 1)) Φ = iprop(Φ t ∗ bigSep (lt t.val) Φ) := by
  rw [lt_succ, bigSep_insert (not_mem_lt t)]; rfl
/-- and over those from `t` on. -/
theorem bigSep_ge {M : Type} [URA M] (t : Fin 7) (Φ : Fin 7 → sProp M) : bigSep (ge t.val) Φ = iprop(Φ t ∗ bigSep (ge (t.val + 1)) Φ) := by
  rw [ge_self, bigSep_insert (not_mem_ge t)]; rfl

/-! ## What a device owes -/

/-- The partials it has to land. -/
def oR (c : Dev nD) (S : Finset (Fin 7)) : CellTallies nD τ sig Unit := ∑ t ∈ S, tallyAt (cell 1 (nx c t.val) t) () N
/-- The chunks it has to land. -/
def oA (c : Dev nD) (S : Finset (Fin 7)) : CellTallies nD τ sig Unit := ∑ t ∈ S, tallyAt (cell 3 (nx c t.val) t) () N
/-- The barriers it has to signal. -/
def oB (c : Dev nD) (S : Finset (Fin 7)) : CellTallies nD τ sig Unit := ∑ t ∈ S, tallyAt (barCell (pv c t.val)) () 1

/-- All that device `c` owes at launch. -/
def O₀ (c : Dev nD) : CellTallies nD τ sig Unit := oA c Finset.univ + oR c Finset.univ + oB c Finset.univ

/-- The partials owed before trip `t`: its own and those after. -/
theorem oR_ge (c : Dev nD) (t : Fin 7) : oR c (ge t.val) = oR c (ge (t.val + 1)) + tallyAt (cell 1 (nx c t.val) t) () N := by
  unfold oR; rw [ge_self, Finset.sum_insert (not_mem_ge t), add_comm]
/-- The chunks owed before trip `t`, likewise. -/
theorem oA_ge (c : Dev nD) (t : Fin 7) : oA c (ge t.val) = oA c (ge (t.val + 1)) + tallyAt (cell 3 (nx c t.val) t) () N := by
  unfold oA; rw [ge_self, Finset.sum_insert (not_mem_ge t), add_comm]
/-- The signals owed up to `t`: its own and those before. -/
theorem oB_lt (c : Dev nD) (t : Fin 7) : oB c (lt (t.val + 1)) = oB c (lt t.val) + tallyAt (barCell (pv c t.val)) () 1 := by
  unfold oB; rw [lt_succ, Finset.sum_insert (not_mem_lt t), add_comm]

/-- What is owed in a sum is owed in one of its parts. -/
theorem pos_of_add {A B : CellTallies nD τ sig Unit} {g : GSem nD τ sig} {u : Unit} (h : 0 < (A + B) g u) : 0 < A g u ∨ 0 < B g u := by
  rw [Pi.add_apply, Finsupp.add_apply] at h; omega
/-- What is owed in a sum over distances is owed at one of them. -/
theorem pos_of_sum {S : Finset (Fin 7)} {f : Fin 7 → GSem nD τ sig} {n : ℕ} {g : GSem nD τ sig} {u : Unit}
    (h : 0 < (∑ t ∈ S, tallyAt (f t) () n : CellTallies nD τ sig Unit) g u) : ∃ t, g = f t := by
  induction S using Finset.induction_on with
  | empty => rw [Finset.sum_empty] at h; exact absurd h (Nat.lt_irrefl 0)
  | insert a S ha ih =>
    rw [Finset.sum_insert ha] at h
    rcases pos_of_add h with h | h
    · rw [tallyAt_apply] at h
      by_cases hg : g = f a ∧ u = ()
      · exact ⟨a, hg.1⟩
      · rw [if_neg hg] at h; exact absurd h (Nat.lt_irrefl 0)
    · exact ih h

/-! ## Levels -/

/-- Every cell of a TensorCore has a level. -/
def L (g : GSem nD τ sig) : Finset Unit := if g.1.2 = .tc then {()} else ∅
/-- Barrier 1, partials received 2, chunks received 3, everything else 0. -/
def lv (g : GSem nD τ sig) (_ : Unit) : ℕ :=
  if g.2 = .reg barS then 1 else (which g.2).elim 0 fun kt => if kt.1 = 1 then 2 else if kt.1 = 3 then 3 else 0

/-- No other cell has one. -/
theorem L_of_ne (g : GSem nD τ sig) (h : g.1.2 ≠ .tc) : L g = ∅ := if_neg h
/-- A TensorCore's cell has one. -/
theorem L_tc (c : Dev nD) (sm : SemLoc sig) : L ((c : Thread nD τ), sm) = {()} := if_pos rfl

/-- The barrier's level. -/
theorem lv_bar (c : Dev nD) : lv (barCell c) () = 1 := if_pos rfl
/-- The transfer cells' levels. -/
theorem lv_cell (k : Fin 4) (c : Dev nD) (t : Fin 7) : lv (cell k c t) () = if k = 1 then 2 else if k = 3 then 3 else 0 := by
  unfold lv; rw [if_neg (dma_ne_bar _), which_cell]; rfl

/-- A wait at level `n` is admitted while only cells above `n` are owed. -/
theorem mayWait (c : Dev nD) (s : SemLoc sig) (n : ℕ) (hs : lv ((c : Thread nD τ), s) () ≤ n) (O : CellTallies nD τ sig Unit)
    (hO : ∀ g u, 0 < O g u → ∃ (c' : Dev nD) (s' : SemLoc sig), g = ((c' : Thread nD τ), s') ∧ n < lv ((c' : Thread nD τ), s') ()) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by obtain ⟨c', s', rfl, -⟩ := hO g u hg; rw [L_tc]; exact Finset.mem_singleton_self _)
    (fun p hp => by rw [Finset.mem_singleton.mp hp]; exact hs)
    (fun g u hg => by obtain ⟨c', s', rfl, h⟩ := hO g u hg; exact h)

/-- The chunks owed lie above level 2; -/
theorem oA_above (c : Dev nD) (S) (g u) (h : 0 < oA c S g u) : ∃ (c' : Dev nD) (s' : SemLoc sig), g = ((c' : Thread nD τ), s') ∧ 2 < lv ((c' : Thread nD τ), s') () := by
  obtain ⟨t, rfl⟩ := pos_of_sum h
  refine ⟨_, _, rfl, ?_⟩
  rw [lv_cell]; decide
/-- the partials owed above level 1; -/
theorem oR_above (c : Dev nD) (S) (g u) (h : 0 < oR c S g u) : ∃ (c' : Dev nD) (s' : SemLoc sig), g = ((c' : Thread nD τ), s') ∧ 1 < lv ((c' : Thread nD τ), s') () := by
  obtain ⟨t, rfl⟩ := pos_of_sum h
  refine ⟨_, _, rfl, ?_⟩
  rw [lv_cell]; decide
/-- the signals owed above level 0. -/
theorem oB_above (c : Dev nD) (S) (g u) (h : 0 < oB c S g u) : ∃ (c' : Dev nD) (s' : SemLoc sig), g = ((c' : Thread nD τ), s') ∧ 0 < lv ((c' : Thread nD τ), s') () := by
  obtain ⟨t, rfl⟩ := pos_of_sum h
  refine ⟨_, _, rfl, ?_⟩
  rw [lv_bar]; decide

/-- Waiting at the barrier with every landing owed; -/
theorem mayWait_bar (c : Dev nD) : (levAts L lv : sProp 𝕄) ⊢ MayWait (c : Thread nD τ) (.reg barS) () (oA c Finset.univ + oR c Finset.univ) :=
  mayWait c _ 1 (by rw [lv_bar]) _ fun g u h => (pos_of_add h).elim
    (fun h => by obtain ⟨c', s', e, h⟩ := oA_above c _ g u h; exact ⟨c', s', e, by omega⟩) (fun h => oR_above c _ g u h)
/-- for a partial with the chunks' landings owed; -/
theorem mayWait_part (c : Dev nD) (t : Fin 7) (S) : (levAts L lv : sProp 𝕄) ⊢ MayWait (c : Thread nD τ) (.dma (sm 1 t.succ)) () (oA c S) :=
  mayWait c _ 2 (by rw [lv_cell]; decide) _ fun g u h => oA_above c _ g u h
/-- for a staging transfer with everything owed. -/
theorem mayWait_stage (c : Dev nD) (q : DmaSem sig) (hq : which (.dma q) = none) : (levAts L lv : sProp 𝕄) ⊢ MayWait (c : Thread nD τ) (.dma q) () (O₀ c) :=
  mayWait c _ 0 (by unfold lv; rw [if_neg (dma_ne_bar _), hq]; exact Nat.le_refl 0) _ fun g u h => (pos_of_add h).elim
    (fun h => (pos_of_add h).elim
      (fun h => by obtain ⟨c', s', e, h⟩ := oA_above c _ g u h; exact ⟨c', s', e, by omega⟩)
      (fun h => by obtain ⟨c', s', e, h⟩ := oR_above c _ g u h; exact ⟨c', s', e, by omega⟩))
    (fun h => oB_above c _ g u h)

end Cert.Mlp
-- ==== Proof.Steps.lean ====
/-
# One effect at a time

What each kind of effect of the body does to the resources the protocol deals in: a signal to another device's barrier,
the wait at the own barrier, a transfer of a partial, a transfer of a chunk, a wait for a transfer, and the loads and
stores through the slots and row chunks. Devices, semaphores and offsets are taken as any term equal to the named one.
-/
module

public import proofs.«01_k».proof.Proof.Schedule

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells together -/

/-- The semaphores of the protocol's cells on a device: the barrier, and the transfer semaphores. -/
abbrev csem : Option (Fin 4 × Fin 7) → SemLoc sig
  | none => .reg barS
  | some kt => .dma (sm kt.1 kt.2.succ)
/-- A cell of the mesh: a device's. -/
abbrev kcell (x : Dev nD × Option (Fin 4 × Fin 7)) : GSem nD τ sig := ((x.1 : Thread nD τ), csem x.2)

/-- The record everyone shares: each cell's invariant under the names `K`, and that each cell is at round 0. -/
def records (K : Dev nD × Option (Fin 4 × Fin 7) → ℕ) : sProp 𝕄 :=
  iprop((bigSep Finset.univ fun x => cellInv ER (sched m ρ) (K x) (kcell x)) ∗ bigSep Finset.univ fun x => reached ER (kcell x) 0)

/-- The record may be used again and again. -/
instance records_persistent (K) : BI.Persistent (records (F := F) m ρ K) := by unfold records; infer_instance

variable (K : Dev nD × Option (Fin 4 × Fin 7) → ℕ)

/-- It holds each cell's invariant; -/
theorem inv_at (x : Dev nD × Option (Fin 4 × Fin 7)) : records (F := F) m ρ K ⊢ cellInv ER (sched m ρ) (K x) (kcell x) := by
  have h : (bigSep Finset.univ fun x => (cellInv ER (sched m ρ) (K x) (kcell x) : sProp 𝕄)) ⊢ cellInv ER (sched m ρ) (K x) (kcell x) :=
    bigSep_elim (Finset.mem_univ x)
  unfold records
  iintro ⟨H, -⟩
  iapply h; iexact H
/-- and that each cell is at round 0. -/
theorem reached_at (x : Dev nD × Option (Fin 4 × Fin 7)) : records (F := F) m ρ K ⊢ reached ER (kcell x) 0 := by
  have h : (bigSep Finset.univ fun x : Dev nD × Option (Fin 4 × Fin 7) => (reached ER (kcell x) 0 : sProp 𝕄)) ⊢ reached ER (kcell x) 0 :=
    bigSep_elim (Finset.mem_univ x)
  unfold records
  iintro ⟨-, H⟩
  iapply h; iexact H

/-- The barrier's invariant. -/
theorem inv_bar (c : Dev nD) : records (F := F) m ρ K ⊢ cellInv ER (sched m ρ) (K (c, none)) (barCell c) := inv_at m ρ K (c, none)
/-- A transfer cell's invariant. -/
theorem inv_cell (k : Fin 4) (c : Dev nD) (t : Fin 7) : records (F := F) m ρ K ⊢ cellInv ER (sched m ρ) (K (c, some (k, t))) (cell k c t) :=
  inv_at m ρ K (c, some (k, t))
/-- The barrier is at round 0. -/
theorem at_bar (c : Dev nD) : records (F := F) m ρ K ⊢ reached ER (barCell c) 0 := reached_at m ρ K (c, none)
/-- A transfer cell is at round 0. -/
theorem at_cell (k : Fin 4) (c : Dev nD) (t : Fin 7) : records (F := F) m ρ K ⊢ reached ER (cell k c t) 0 := reached_at m ρ K (c, some (k, t))

/-! ## Signals and waits -/

variable (c : Dev nD)

/-- What device `c` signals the barrier of the device `t + 1` places before it with: the duty's token, and the two slots
    of its own that device will write. -/
def sigNeed (t : Fin 7) : sProp 𝕄 :=
  iprop(dutyTok ER (barCell (pv c t.val)) 0 t ∗ (∃ f, cPt c t.succ f) ∗ ∃ f, bPt c t.succ f)

/-- One signal: the last unit still owed to a barrier is paid. -/
theorem step_signal (n : Dev nD) (t : Fin 7) (hn : n = pv c t.val) (O : CellTallies nD τ sig Unit) (W : Waits sig Unit) {a : ℕ} (ha : a = 1)
    {α : Type} {Q : α → sProp 𝕄} {kk : PUnit → Prog (TpuEff nD τ sig (Elt F) Λ₀ .tc) α} :
    iprop(records m ρ K ∗ owes (c : Thread nD τ) (O + oB c (lt (t.val + 1))) W ∗ bigSep (lt (t.val + 1)) (sigNeed c))
      ⊢ iprop(((owes (c : Thread nD τ) (O + oB c (lt t.val)) W ∗ bigSep (lt t.val) (sigNeed c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n : Thread nD τ) barS a) kk) Q) := by
  subst hn ha
  rw [bigSep_lt]
  unfold sigNeed
  iintro ⟨#HR, HO, ⟨Htok, Hc, Hb⟩, Hrest⟩ Hk
  iapply (Rounds.wp_signal 𝒱₀ ER (sched m ρ) (c : Thread nD τ) none (dst := (pv c t.val : Thread nD τ)) (κ := K (pv c t.val, none))
      (d := t) (by rw [duties_bar]; exact Finset.mem_univ _) (amount_bar m ρ (pv c t.val) t) () (O₀ := O + oB c (lt (t.val + 1))) (O + oB c (lt t.val))
      (by rw [oB_lt, add_assoc])) $$ [HO Htok Hc Hb]
  · isplitr; · iapply (inv_bar m ρ K (pv c t.val)); iexact HR
    isplitl [HO]; · iexact HO
    isplitl [Htok]; · iexact Htok
    isplitl [Hc Hb]
    · rw [payload_bar]; unfold barPay; rw [nx_pv]
      isplitl [Hc]; · iexact Hc
      iexact Hb
    · iapply (at_bar m ρ K (pv c t.val)); iexact HR
  iintro HO
  iapply Hk
  isplitl [HO]; · iexact HO
  iexact Hrest

/-- The wait at the own barrier: the slots the device will write, one pair on each other device. -/
theorem step_barrier (W : Waits sig Unit) {a : ℕ} (ha : a = 7) {α : Type} {Q : α → sProp 𝕄} {kk : PUnit → Prog (TpuEff nD τ sig (Elt F) Λ₀ .tc) α} :
    iprop(records m ρ K ∗ levAts L lv ∗ cred (tallyAt (barCell c) () 7) ∗ owes (c : Thread nD τ) (oA c Finset.univ + oR c Finset.univ) W
        ∗ atPos ER (barCell c) 0 ∅ 0)
      ⊢ iprop(((owes (c : Thread nD τ) (oA c Finset.univ + oR c Finset.univ) (insert (SemLoc.reg barS, ()) W) ∗ semVal (barCell c) 0
              ∗ bigSep Finset.univ fun t : Fin 7 => barPay c t)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS a) kk) Q) := by
  subst ha
  iintro ⟨#HR, #Hlev, Hcr, HO, Hat⟩ Hk
  iapply (Rounds.wp_wait_rest_token 𝒱₀ ER (sched m ρ) (c : Thread nD τ) none (κ := K (c, none))
      (wpE_semWait_eq 𝒱₀ (c : Thread nD τ) none Set.univ) (Set.mem_univ _) () (O := oA c Finset.univ + oR c Finset.univ) (W := W) (R := 0) (m := 0) (T := ∅)
      (by rw [expect_bar])) $$ [Hcr HO Hat]
  · isplitr; · iapply (inv_bar m ρ K c); iexact HR
    isplitl [Hcr]; · iexact Hcr
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (sched m ρ) (Set.mem_univ (K (c, none))) (fun h => h) (R := 0 + 1) (duties_later m ρ (barCell c))) $$ [Hat] with Hz
  · isplitr; · iapply (inv_bar m ρ K c); iexact HR
    iexact Hat
  iapply Hk
  isplitl [HO]; · iexact HO
  isplitl [Hz]; · iexact Hz
  iexact Hp

/-- A wait for a transfer: what the transfer hands over, and the cell's counter at zero again. -/
theorem step_wait (k : Fin 4) (t : Fin 7) (O : CellTallies nD τ sig Unit) (W : Waits sig Unit) {q : DmaSem sig} (hq : q = sm k t.succ)
    (hM : (levAts L lv : sProp 𝕄) ⊢ MayWait (c : Thread nD τ) (.dma (sm k t.succ)) () O)
    {src dst : Memref sig .tc .vmem S128x1024 .bf16} {h₁ : src.view.WordExact} {h₂ : dst.view.WordExact} (hN : dst.view.dmaCredit = N)
    {α : Type} {Q : α → sProp 𝕄} {kk : PUnit → Prog (TpuEff nD τ sig (Elt F) Λ₀ .tc) α} :
    iprop(records m ρ K ∗ levAts L lv ∗ cred (tallyAt (cell k c t) () N) ∗ owes (c : Thread nD τ) O W ∗ atPos ER (cell k c t) 0 ∅ 0)
      ⊢ iprop((((∃ W, owes (c : Thread nD τ) O W) ∗ semVal (cell k c t) 0 ∗ xferPay m ρ c (k, t))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst h₁ h₂) kk) Q) := by
  subst hq
  iintro ⟨#HR, #Hlev, Hcr, HO, Hat⟩ Hk
  iapply (Rounds.wp_wait_rest_token 𝒱₀ ER (sched m ρ) (c : Thread nD τ) none (κ := K (c, some (k, t))) (k' := N)
      (fun Kk => (wpE_waitDma2_eq 𝒱₀ (c : Thread nD τ) none Set.univ Kk).trans (by rw [hN])) (Set.mem_univ _) () (O := O) (W := W) (R := 0) (m := 0) (T := ∅)
      (by rw [Nat.zero_add, expect_cell])) $$ [Hcr HO Hat]
  · isplitr; · iapply (inv_cell m ρ K k c t); iexact HR
    isplitl [Hcr]; · iexact Hcr
    isplitl [HO]; · iexact HO
    isplitr; · iapply hM; iexact Hlev
    iexact Hat
  iintro ⟨HO, Hat, -, Hpay⟩
  ihave Hp := (Entails.of_eq (rest_cell m ρ c k t)) $$ Hpay
  imod (Rounds.cell_close ER (sched m ρ) (Set.mem_univ (K (c, some (k, t)))) (fun h => h) (R := 0 + 1) (duties_later m ρ (cell k c t))) $$ [Hat] with Hz
  · isplitr; · iapply (inv_cell m ρ K k c t); iexact HR
    iexact Hat
  iapply Hk
  isplitl [HO]; · iexists _; iexact HO
  isplitl [Hz]; · iexact Hz
  iexact Hp

/-! ## Transfers -/

/-- The transfer of a partial to the device `t + 1` places on. -/
theorem step_part (n : Dev nD) (t : Fin 7) (hn : n = nx c t.val) (O : CellTallies nD τ sig Unit) (W : Waits sig Unit)
    {qs qr : DmaSem sig} (hqs : qs = sm 0 t.succ) (hqr : qr = sm 1 t.succ) {src dst : Memref sig .tc .vmem S128x1024 .bf16}
    (hs : src = slotM sM t.succ) (hd : dst = slotM cM t.succ)
    {hsc : (dst : Memref sig (Dev.tc n : Thread nD τ).2.kind .vmem S128x1024 .bf16).view.ref.isScScratch = false}
    {hsrc : src.view.WordExact} {hdst : dst.view.WordExact}
    {hsem : DmaTarget.Typed .vmem (.dma qr) (.remote (Dev.tc n : Thread nD τ) (dst : Memref sig .tc .vmem S128x1024 .bf16) (.dma qs) hsc)}
    {α : Type} {Q : α → sProp 𝕄} {kk : PUnit → Prog (TpuEff nD τ sig (Elt F) Λ₀ .tc) α} :
    iprop(records m ρ K ∗ sPt c t.succ (sF m ρ c) ∗ (∃ f, cPt (nx c t.val) t.succ f)
        ∗ owes (c : Thread nD τ) (O + oR c (ge t.val)) W ∗ dutyTok ER (cell 0 c t) 0 0 ∗ dutyTok ER (cell 1 (nx c t.val) t) 0 0)
      ⊢ iprop(((cred (tallyAt (cell 0 c t) () N) ∗ owes (c : Thread nD τ) (O + oR c (ge (t.val + 1))) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) kk) Q) := by
  subst hn hqs hqr hs hd
  iintro ⟨#HR, Hs, ⟨%f, Hc⟩, HO, Ht, Ht'⟩ Hk
  unfold sPt cPt
  iapply (Rounds.wp_send_pointsTo 𝒱₀ ER (sched m ρ) (c : Thread nD τ) none (κ₁ := K (c, some (0, t))) (κ₂ := K (nx c t.val, some (1, t)))
    (r₁ := 0) (r₂ := 0) (d₁ := 0) (d₂ := 0) (fs := sF m ρ c) (fd := f)
    (by rw [duties_cell]; exact Finset.mem_singleton_self _) (by rw [duties_cell]; exact Finset.mem_singleton_self _)
    () () N rfl (amount_cell m ρ c 0 t 0) (amount_cell m ρ (nx c t.val) 1 t 0) (O₀ := O + oR c (ge t.val)) (O + oR c (ge (t.val + 1))) (by rw [oR_ge, add_assoc]) (W := W)
    (by rw [payload_cell]; exact BI.Entails.refl _)
    (by rw [payload_cell]; exact Entails.of_eq (c_landed m ρ c t f))) $$ [Hs Hc HO Ht Ht']
  · isplitr; · iapply (inv_cell m ρ K 0 c t); iexact HR
    isplitr; · iapply (inv_cell m ρ K 1 (nx c t.val) t); iexact HR
    isplitl [Hs]; · iexact Hs
    isplitl [Hc]; · iexact Hc
    isplitl [HO]; · iexact HO
    isplitl [Ht]; · iexact Ht
    isplitr; · iapply (at_cell m ρ K 0 c t); iexact HR
    isplitl [Ht']; · iexact Ht'
    iapply (at_cell m ρ K 1 (nx c t.val) t); iexact HR
  iexact Hk

/-- The transfer of the chunk to the device `t + 1` places on. -/
theorem step_chunk (n : Dev nD) (t : Fin 7) (hn : n = nx c t.val) (W : Waits sig Unit)
    {qs qr : DmaSem sig} (hqs : qs = sm 2 t.succ) (hqr : qr = sm 3 t.succ) {dst : Memref sig .tc .vmem S128x1024 .bf16}
    (hd : dst = slotM bM t.succ)
    {hsc : (dst : Memref sig (Dev.tc n : Thread nD τ).2.kind .vmem S128x1024 .bf16).view.ref.isScScratch = false}
    {hsrc : (aM : Memref sig .tc .vmem S128x1024 .bf16).view.WordExact} {hdst : dst.view.WordExact}
    {hsem : DmaTarget.Typed .vmem (.dma qr) (.remote (Dev.tc n : Thread nD τ) (dst : Memref sig .tc .vmem S128x1024 .bf16) (.dma qs) hsc)}
    {α : Type} {Q : α → sProp 𝕄} {kk : PUnit → Prog (TpuEff nD τ sig (Elt F) Λ₀ .tc) α} :
    iprop(records m ρ K ∗ aTok m ρ c t ∗ (∃ f, bPt (nx c t.val) t.succ f)
        ∗ owes (c : Thread nD τ) (oA c (ge t.val)) W ∗ dutyTok ER (cell 2 c t) 0 0 ∗ dutyTok ER (cell 3 (nx c t.val) t) 0 0)
      ⊢ iprop(((cred (tallyAt (cell 2 c t) () N) ∗ owes (c : Thread nD τ) (oA c (ge (t.val + 1))) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma aM (.remote (Dev.tc n : Thread nD τ) dst (.dma qs) hsc) (.dma qr) hsrc hdst hsem) kk) Q) := by
  subst hn hqs hqr hd
  iintro ⟨#HR, Hs, ⟨%f, Hc⟩, HO, Ht, Ht'⟩ Hk
  unfold aTok bPt
  iapply (Rounds.wp_send_pointsTo 𝒱₀ ER (sched m ρ) (c : Thread nD τ) none (κ₁ := K (c, some (2, t))) (κ₂ := K (nx c t.val, some (3, t)))
    (r₁ := 0) (r₂ := 0) (d₁ := 0) (d₂ := 0) (fs := chunk m ρ c) (fd := f)
    (by rw [duties_cell]; exact Finset.mem_singleton_self _) (by rw [duties_cell]; exact Finset.mem_singleton_self _)
    () () N rfl (amount_cell m ρ c 2 t 0) (amount_cell m ρ (nx c t.val) 3 t 0) (oA c (ge (t.val + 1))) (oA_ge c t) (W := W)
    (by rw [payload_cell]; exact BI.Entails.refl _)
    (by rw [payload_cell]; exact Entails.of_eq (b_landed m ρ c t f))) $$ [Hs Hc HO Ht Ht']
  · isplitr; · iapply (inv_cell m ρ K 2 c t); iexact HR
    isplitr; · iapply (inv_cell m ρ K 3 (nx c t.val) t); iexact HR
    isplitl [Hs]; · iexact Hs
    isplitl [Hc]; · iexact Hc
    isplitl [HO]; · iexact HO
    isplitl [Ht]; · iexact Ht
    isplitr; · iapply (at_cell m ρ K 2 c t); iexact HR
    isplitl [Ht']; · iexact Ht'
    iapply (at_cell m ρ K 3 (nx c t.val) t); iexact HR
  iexact Hk

/-! ## The semaphores, slots and rows as the program addresses them -/

section Addr

/-- Every place lies in the array of eight semaphores. -/
theorem sem_inb (d : Fin 8) : ∀ a, (![d.val] : Fin 1 → Nat) a + S1.size a ≤ S8.size a := by revert d; decide

/-- Semaphore `d` of each of the four arrays. -/
theorem sems_at : ∀ d : Fin 8,
    ((cc0_scratch4.slice (Rect.unit (s := S8) ![d.val] S1.size (sem_inb d))).squeeze S_ squeezes_S1_S_).sem = sm 0 d
    ∧ ((cc0_scratch5.slice (Rect.unit (s := S8) ![d.val] S1.size (sem_inb d))).squeeze S_ squeezes_S1_S_).sem = sm 1 d
    ∧ ((cc0_scratch6.slice (Rect.unit (s := S8) ![d.val] S1.size (sem_inb d))).squeeze S_ squeezes_S1_S_).sem = sm 2 d
    ∧ ((cc0_scratch7.slice (Rect.unit (s := S8) ![d.val] S1.size (sem_inb d))).squeeze S_ squeezes_S1_S_).sem = sm 3 d := by
  decide +kernel

variable (t : Fin 7) {o : Fin 1 → ℕ} {h : ∀ a, o a + S1.size a ≤ S8.size a}

/-- The semaphore that a trip addresses in the first array; -/
theorem sem_0 (ho : o = ![t.val + 1]) : ((cc0_scratch4.slice (Rect.unit (s := S8) o S1.size h)).squeeze S_ squeezes_S1_S_).sem = sm 0 t.succ := by
  subst ho; exact (sems_at t.succ).1
/-- in the second; -/
theorem sem_1 (ho : o = ![t.val + 1]) : ((cc0_scratch5.slice (Rect.unit (s := S8) o S1.size h)).squeeze S_ squeezes_S1_S_).sem = sm 1 t.succ := by
  subst ho; exact (sems_at t.succ).2.1
/-- in the third; -/
theorem sem_2 (ho : o = ![t.val + 1]) : ((cc0_scratch6.slice (Rect.unit (s := S8) o S1.size h)).squeeze S_ squeezes_S1_S_).sem = sm 2 t.succ := by
  subst ho; exact (sems_at t.succ).2.2.1
/-- in the fourth. -/
theorem sem_3 (ho : o = ![t.val + 1]) : ((cc0_scratch7.slice (Rect.unit (s := S8) o S1.size h)).squeeze S_ squeezes_S1_S_).sem = sm 3 t.succ := by
  subst ho; exact (sems_at t.succ).2.2.2

variable {o : Fin 3 → ℕ} {h : ∀ a, o a + S1x128x1024.size a ≤ S8x128x1024.size a}

/-- The rectangle that a trip addresses is its slot's; -/
theorem slot_unit (ho : o = ![t.val + 1, 0, 0]) : Rect.unit (s := S8x128x1024) o S1x128x1024.size h = slotR t.succ := by
  subst ho; rfl
/-- and the slot that a transfer addresses is that slot. -/
theorem slot_at (M : Memref sig .tc .vmem S8x128x1024 .bf16) (ho : o = ![t.val + 1, 0, 0]) :
    (M.slice (Rect.unit (s := S8x128x1024) o S1x128x1024.size h) (fun _ => rfl)).squeeze S128x1024 squeezes_S1x128x1024_S128x1024 = slotM M t.succ := by
  subst ho; rfl
end Addr

/-- Every slot's transfer has the same credit; -/
theorem credit_slot (M : Memref sig .tc .vmem S8x128x1024 .bf16) (d : Fin 8) : (slotM M d).view.dmaCredit = N := rfl
/-- and the chunk's has it too. -/
theorem credit_chunk : (aM : Memref sig .tc .vmem S128x1024 .bf16).view.dmaCredit = N := rfl

/-! ## Loads and stores -/

section Access

/-- The load of row chunk `j` of `x`. -/
theorem step_load_x (j : Dev nD) {o : Fin 2 → ℕ} {h : ∀ a, o a + S128x1024.size a ≤ S1024x1024.size a} (ho : o = ![128 * j.val, 0])
    {hl} {α : Type} {Q : α → sProp 𝕄} {kl : Vec F S128x1024 .bf16 → Prog (TpuEff nD τ sig (Elt F) Λ₀ .tc) α} :
    (((c : Thread nD τ).loc cc0_stg0_0) ↦{fullShare} xs m ρ c)
      ⊢ iprop(((((c : Thread nD τ).loc cc0_stg0_0) ↦{fullShare} xs m ρ c)
            -∗ wp frame (wpE (defs₀ (F := F)) 𝒱₀ (c : Thread nD τ) none) Set.univ (kl (xrow m ρ c j)) Q)
          -∗ wp frame (wpE (defs₀ (F := F)) 𝒱₀ (c : Thread nD τ) none) Set.univ
              (.op (.load xM (Rect.unit (s := S1024x1024) o S128x1024.size h).toLoadRect hl) kl) Q) := by
  subst ho
  exact wp_load 𝒱₀ (c : Thread nD τ) none Set.univ (m := xM) (Finset.subset_univ _)

/-- The load of a slot of the send buffer about to be overwritten. -/
theorem step_load_s (t : Fin 7) (f) {o : Fin 3 → ℕ} {h : ∀ a, o a + S1x128x1024.size a ≤ S8x128x1024.size a} (ho : o = ![t.val + 1, 0, 0])
    {hl} {α : Type} {Q : α → sProp 𝕄} {kl : Vec F S1x128x1024 .bf16 → Prog (TpuEff nD τ sig (Elt F) Λ₀ .tc) α} :
    sPt c t.succ f
      ⊢ iprop((sPt c t.succ f -∗ ∀ v, wp frame (wpE (defs₀ (F := F)) 𝒱₀ (c : Thread nD τ) none) Set.univ (kl v) Q)
          -∗ wp frame (wpE (defs₀ (F := F)) 𝒱₀ (c : Thread nD τ) none) Set.univ
              (.op (.load sM (Rect.unit (s := S8x128x1024) o S1x128x1024.size h).toLoadRect hl) kl) Q) := by
  subst ho
  unfold sPt
  iintro H Hk
  iapply (wp_load 𝒱₀ (c : Thread nD τ) none Set.univ (m := sM) (by rw [slot_set]; exact Finset.Subset.refl _)) $$ H
  iintro H
  ihave Hk := Hk $$ H
  iapply Hk

/-- The store of the partial for the device `t + 1` places on. -/
theorem step_store_s (t : Fin 7) (f) (w : Vec F S1x128x1024 .bf16) (hw : w = part m ρ c (nx c t.val)) {o : Fin 3 → ℕ}
    {h : ∀ a, o a + S1x128x1024.size a ≤ S8x128x1024.size a} (ho : o = ![t.val + 1, 0, 0]) {hl hl'}
    {α : Type} {Q : α → sProp 𝕄} {kk : PUnit → Prog (TpuEff nD τ sig (Elt F) Λ₀ .tc) α} :
    sPt c t.succ f
      ⊢ iprop((sPt c t.succ (sF m ρ c) -∗ wp frame (wpE (defs₀ (F := F)) 𝒱₀ (c : Thread nD τ) none) Set.univ (kk ⟨⟩) Q)
          -∗ wp frame (wpE (defs₀ (F := F)) 𝒱₀ (c : Thread nD τ) none) Set.univ
              (.op (.store sM (Rect.unit (s := S8x128x1024) o S1x128x1024.size h) w Finset.univ hl hl') kk) Q) := by
  subst ho hw
  rw [← s_stored m ρ c t f]
  unfold sPt
  exact wp_store 𝒱₀ (c : Thread nD τ) none Set.univ (m := sM) (r := slotR t.succ) (Mk := Finset.univ)
    (subset_of_eq (View.set_reshape (sM.access (slotR t.succ)) _).symm)

/-- The load of a partial landed. -/
theorem step_load_c (t : Fin 7) {o : Fin 3 → ℕ} {h : ∀ a, o a + S1x128x1024.size a ≤ S8x128x1024.size a} (ho : o = ![t.val + 1, 0, 0])
    {hl} {α : Type} {Q : α → sProp 𝕄} {kl : Vec F S1x128x1024 .bf16 → Prog (TpuEff nD τ sig (Elt F) Λ₀ .tc) α} :
    cPt c t.succ (cF m ρ c)
      ⊢ iprop((cPt c t.succ (cF m ρ c) -∗ wp frame (wpE (defs₀ (F := F)) 𝒱₀ (c : Thread nD τ) none) Set.univ (kl (part m ρ (pv c t.val) c)) Q)
          -∗ wp frame (wpE (defs₀ (F := F)) 𝒱₀ (c : Thread nD τ) none) Set.univ
              (.op (.load cM (Rect.unit (s := S8x128x1024) o S1x128x1024.size h).toLoadRect hl) kl) Q) := by
  subst ho
  rw [← c_read m ρ c t]
  unfold cPt
  exact wp_load 𝒱₀ (c : Thread nD τ) none Set.univ (m := cM) (r := (slotR t.succ).toLoadRect) (by rw [slot_set])

/-- The load of a chunk landed. -/
theorem step_load_b (t : Fin 7) {o : Fin 3 → ℕ} {h : ∀ a, o a + S1x128x1024.size a ≤ S8x128x1024.size a} (ho : o = ![t.val + 1, 0, 0])
    {hl} {α : Type} {Q : α → sProp 𝕄} {kl : Vec F S1x128x1024 .bf16 → Prog (TpuEff nD τ sig (Elt F) Λ₀ .tc) α} :
    bPt c t.succ (bF m ρ c)
      ⊢ iprop((bPt c t.succ (bF m ρ c) -∗ wp frame (wpE (defs₀ (F := F)) 𝒱₀ (c : Thread nD τ) none) Set.univ (kl (chunk1 m ρ (pv c t.val))) Q)
          -∗ wp frame (wpE (defs₀ (F := F)) 𝒱₀ (c : Thread nD τ) none) Set.univ
              (.op (.load bM (Rect.unit (s := S8x128x1024) o S1x128x1024.size h).toLoadRect hl) kl) Q) := by
  subst ho
  rw [← b_read m ρ c t]
  unfold bPt
  exact wp_load 𝒱₀ (c : Thread nD τ) none Set.univ (m := bM) (r := (slotR t.succ).toLoadRect) (by rw [slot_set])

/-- The result's staging buffer at contents `f`. -/
abbrev oPt (c : Dev nD) (f : (cc0_stg4_0 : Ref sig .tc).ty.Contents (Elt F)) : sProp 𝕄 := ((c : Thread nD τ).loc cc0_stg4_0) ↦{fullShare} f

/-- The load of a row chunk of the result about to be overwritten. -/
theorem step_load_o (j : Dev nD) (f) {o : Fin 2 → ℕ} {h : ∀ a, o a + S128x1024.size a ≤ S1024x1024.size a} (ho : o = ![128 * j.val, 0])
    {hl} {α : Type} {Q : α → sProp 𝕄} {kl : Vec F S128x1024 .f32 → Prog (TpuEff nD τ sig (Elt F) Λ₀ .tc) α} :
    oPt c f
      ⊢ iprop((oPt c f -∗ ∀ v, wp frame (wpE (defs₀ (F := F)) 𝒱₀ (c : Thread nD τ) none) Set.univ (kl v) Q)
          -∗ wp frame (wpE (defs₀ (F := F)) 𝒱₀ (c : Thread nD τ) none) Set.univ
              (.op (.load oM (Rect.unit (s := S1024x1024) o S128x1024.size h).toLoadRect hl) kl) Q) := by
  subst ho
  iintro H Hk
  iapply (wp_load 𝒱₀ (c : Thread nD τ) none Set.univ (m := oM) (Finset.subset_univ _)) $$ H
  iintro H
  ihave Hk := Hk $$ H
  iapply Hk

/-- The store of a row chunk of the result: its rows hold the payload, every other what it held. -/
theorem step_store_o (j : Dev nD) (f) (w : FVec F S128x1024 .f32) {o : Fin 2 → ℕ} {h : ∀ a, o a + S128x1024.size a ≤ S1024x1024.size a}
    (ho : o = ![128 * j.val, 0]) {hl hl'}
    {α : Type} {Q : α → sProp 𝕄} {kk : PUnit → Prog (TpuEff nD τ sig (Elt F) Λ₀ .tc) α} :
    oPt c f
      ⊢ iprop((oPt c (fun i : S1024x1024.Idx => if rowOf i = j then w (inRow i) else f i)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.store oM (Rect.unit (s := S1024x1024) o S128x1024.size h) w Finset.univ hl hl') kk) Q) := by
  subst ho
  rw [← show (oM.access (rowR j)).write (Elt F) f w Finset.univ = (fun i : S1024x1024.Idx => if rowOf i = j then w (inRow i) else f i) from
    funext fun i => row_write j f w i]
  exact wp_store 𝒱₀ (c : Thread nD τ) none Set.univ (m := oM) (r := rowR j) (Mk := Finset.univ) (Finset.subset_univ _)

end Access

end Cert.Mlp
-- ==== Proof.Trips.lean ====
/-
# The five loops, one trip at a time

Each loop of the body runs over the seven other devices. Its invariant names what the trips ahead still need and what
the trips behind have given; a trip moves one distance from the first to the second.
-/
module

public import proofs.«01_k».proof.Proof.Steps

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 4 × Fin 7) → ℕ) (c : Dev nD)

/-- The corner is the origin. -/
theorem hz : (![0, 0] : Fin 2 → Nat) = fun _ => 0 := funext fun a => by fin_cases a <;> rfl

/-- The four staged arguments. -/
def ins : sProp 𝕄 :=
  iprop((((c : Thread nD τ).loc cc0_stg0_0) ↦{fullShare} xs m ρ c) ∗ (((c : Thread nD τ).loc cc0_stg1_0) ↦{fullShare} wg m ρ c)
    ∗ (((c : Thread nD τ).loc cc0_stg2_0) ↦{fullShare} wu m ρ c) ∗ (((c : Thread nD τ).loc cc0_stg3_0) ↦{fullShare} wd m ρ c))

/-- The load of the part of `Wg`, whole. -/
theorem read_wg (f : (cc0_stg1_0 : Ref sig .tc).ty.Contents (Elt F)) (h) :
    (gM : Memref sig .tc .vmem S1024x2048 .bf16).view.readAt (Elt F) (Rect.unit (s := S1024x2048) ![0, 0] S1024x2048.size h).toLoadRect f = f :=
  Memref.readAt_unit_zero (Elt F) cc0_stg1_0 hz _ f
/-- The load of the part of `Wu`, whole. -/
theorem read_wu (f : (cc0_stg2_0 : Ref sig .tc).ty.Contents (Elt F)) (h) :
    (uM : Memref sig .tc .vmem S1024x2048 .bf16).view.readAt (Elt F) (Rect.unit (s := S1024x2048) ![0, 0] S1024x2048.size h).toLoadRect f = f :=
  Memref.readAt_unit_zero (Elt F) cc0_stg2_0 hz _ f
/-- The load of the part of `Wd`, whole. -/
theorem read_wd (f : (cc0_stg3_0 : Ref sig .tc).ty.Contents (Elt F)) (h) :
    (dM : Memref sig .tc .vmem S2048x1024 .bf16).view.readAt (Elt F) (Rect.unit (s := S2048x1024) ![0, 0] S2048x1024.size h).toLoadRect f = f :=
  Memref.readAt_unit_zero (Elt F) cc0_stg3_0 hz _ f

/-- What every trip may use as often as it likes: the record of the cells, and the levels. -/
def ctx : sProp 𝕄 := iprop(records m ρ K ∗ levAts L lv)

/-- It may indeed be used again. -/
instance ctx_persistent : BI.Persistent (ctx (F := F) m ρ K) := by unfold ctx; infer_instance

/-! ## Sending the partials -/

/-- What the transfer of the partial at distance `t + 1` needs: the own slot, the other device's slot, and the two duties. -/
def need1 (t : Fin 7) : sProp 𝕄 :=
  iprop((∃ f, sPt c t.succ f) ∗ (∃ f, cPt (nx c t.val) t.succ f) ∗ dutyTok ER (cell 0 c t) 0 0 ∗ dutyTok ER (cell 1 (nx c t.val) t) 0 0)
/-- What it gives: the right to wait for its own end. -/
def gave1 (t : Fin 7) : sProp 𝕄 := cred (tallyAt (cell 0 c t) () N)

/-- The sending loop's state before trip `k`: the partials of the trips to come are owed, those sent may be waited for. -/
def I1 (k : ℕ) (_ : Unit) : sProp 𝕄 :=
  iprop(ctx m ρ K ∗ ins m ρ c ∗ (∃ W, owes (c : Thread nD τ) (oA c Finset.univ + oR c (ge k)) W)
    ∗ bigSep (ge k) (need1 c) ∗ bigSep (lt k) (gave1 c))

/-- A trip of the sending loop computes a partial and sends it. -/
theorem trip1 (v2 : BitVec 32) (v3 : Sems sig S_) (v24 c8 : BitVec 32) (k : Fin k0_t1_loop.trips) (acc : Unit) :
    I1 m ρ K c k.val acc ⊢ wp frame (wpE (defs₀ (F := F)) 𝒱₀ (c : Thread nD τ) none) Set.univ
      (k0_t1_body xM (Memref.isWhole_whole _) gM (Memref.isWhole_whole _) uM (Memref.isWhole_whole _) dM (Memref.isWhole_whole _)
        oM (Memref.isWhole_whole _) sM (Memref.isWhole_whole _) cM (Memref.isWhole_whole _) aM (Memref.isWhole_whole _) bM (Memref.isWhole_whole _)
        cc0_scratch4 cc0_scratch5 cc0_scratch6 cc0_scratch7 c v2 v3 v24 c8 k acc) (fun acc => I1 m ρ K c (k.val + 1) acc) := by
  obtain ⟨t, ht⟩ : ∃ t : Fin 7, t.val = k.val := ⟨Fin.cast trips1 k, rfl⟩
  unfold k0_t1_body
  simp only [k0_part1_eq_skeleton]; unfold k0_part1_skel
  simp only [Prog.lift, Prog.bind_op, Prog.bind_ret, Prog.pure_eq_ret]
  unfold I1 ins
  rw [← ht, bigSep_ge t, bigSep_lt t]
  iintro ⟨#Hctx, ⟨Hx, Hg, Hu, Hd⟩, ⟨%W, HO⟩, ⟨Hn, Hge⟩, Hlt⟩
  unfold need1 gave1
  icases Hn with ⟨⟨%fs, Hs⟩, Hc, Ht0, Ht1⟩
  iapply (step_load_x m ρ c (nx c t.val) ((k0_off1_eq c k).trans (by rw [nx_val, ht]))) $$ Hx; iintro Hx
  iapply (wp_load 𝒱₀ (c : Thread nD τ) none Set.univ (m := gM) (Finset.subset_univ _)) $$ Hg; iintro Hg
  iapply (wp_load 𝒱₀ (c : Thread nD τ) none Set.univ (m := uM) (Finset.subset_univ _)) $$ Hu; iintro Hu
  iapply (wp_load 𝒱₀ (c : Thread nD τ) none Set.univ (m := dM) (Finset.subset_univ _)) $$ Hd; iintro Hd
  rw [read_wg, read_wu, read_wd]
  iapply (step_load_s c t fs ((k0_off2_eq k).trans (by rw [ht]))) $$ Hs; iintro Hs %v
  iapply (step_store_s m ρ c t fs _ rfl ((k0_off2_eq k).trans (by rw [ht]))) $$ Hs; iintro Hs
  iapply (step_part m ρ K c _ t (Fin.ext ((k0_dev8_eq c k).trans (by rw [nx_val, ht]))) (oA c Finset.univ) W
    (sem_0 t ((k0_off3_eq k).trans (by rw [ht]))) (sem_1 t ((k0_off3_eq k).trans (by rw [ht])))
    (slot_at t sM ((k0_off4_eq k).trans (by rw [ht]))) (slot_at t cM ((k0_off4_eq k).trans (by rw [ht])))) $$ [Hs Hc HO Ht0 Ht1]
  · isplitr; · unfold ctx; icases Hctx with ⟨HR, -⟩; iexact HR
    isplitl [Hs]; · iexact Hs
    isplitl [Hc]; · iexact Hc
    isplitl [HO]; · iexact HO
    isplitl [Ht0] <;> iassumption
  iintro ⟨Hcr, HO⟩
  rw [wp_ret]; imodintro
  isplitr; · iexact Hctx
  isplitl [Hx Hg Hu Hd]
  · isplitl [Hx]; · iexact Hx
    isplitl [Hg]; · iexact Hg
    isplitl [Hu] <;> iassumption
  isplitl [HO]; · iexists W; iexact HO
  isplitl [Hge]; · iexact Hge
  isplitl [Hcr] <;> iassumption

/-! ## Adding up the partials -/

/-- What adding the partial at distance `t + 1` needs: the right to wait for it. -/
def need2 (t : Fin 7) : sProp 𝕄 := iprop(cred (tallyAt (cell 1 c t) () N) ∗ atPos ER (cell 1 c t) 0 ∅ 0)
/-- What it gives: the landed slot, and its cell at zero. -/
def gave2 (t : Fin 7) : sProp 𝕄 := iprop(cPt c t.succ (cF m ρ c) ∗ semVal (cell 1 c t) 0)

/-- The adding loop's state before trip `k`: the accumulator is the sum after `k` partials. -/
def I2 (k : ℕ) (acc : FVec F S128x1024 .f32) : sProp 𝕄 :=
  iprop(ctx m ρ K ∗ ⌜acc = red m ρ c k⌝ ∗ (∃ W, owes (c : Thread nD τ) (oA c Finset.univ) W)
    ∗ bigSep (ge k) (need2 c) ∗ bigSep (lt k) (gave2 m ρ c))

/-- A trip of the adding loop waits for a partial and adds it. -/
theorem trip2 (v2 : BitVec 32) (v3 : Sems sig S_) (v24 c8 : BitVec 32) (k : Fin k0_t2_loop.trips) (acc : FVec F S128x1024 .f32) :
    I2 m ρ K c k.val acc ⊢ wp frame (wpE (defs₀ (F := F)) 𝒱₀ (c : Thread nD τ) none) Set.univ
      (k0_t2_body xM (Memref.isWhole_whole _) gM (Memref.isWhole_whole _) uM (Memref.isWhole_whole _) dM (Memref.isWhole_whole _)
        oM (Memref.isWhole_whole _) sM (Memref.isWhole_whole _) cM (Memref.isWhole_whole _) aM (Memref.isWhole_whole _) bM (Memref.isWhole_whole _)
        cc0_scratch4 cc0_scratch5 cc0_scratch6 cc0_scratch7 c v2 v3 v24 c8 k acc) (fun acc => I2 m ρ K c (k.val + 1) acc) := by
  obtain ⟨t, ht⟩ : ∃ t : Fin 7, t.val = k.val := ⟨Fin.cast trips2 k, rfl⟩
  unfold k0_t2_body
  simp only [Prog.lift, Prog.bind_op, Prog.bind_ret, Prog.pure_eq_ret]
  unfold I2
  rw [← ht, bigSep_ge t, bigSep_lt t]
  iintro ⟨#Hctx, %hacc, ⟨%W, HO⟩, ⟨Hn, Hge⟩, Hlt⟩
  unfold need2 gave2
  icases Hn with ⟨Hcr, Hat⟩
  iapply (step_wait m ρ K c 1 t (oA c Finset.univ) W (sem_1 t ((k0_off6_eq k).trans (by rw [ht]))) (mayWait_part c t Finset.univ)
    (by rw [slot_at t cM ((k0_off7_eq k).trans (by rw [ht]))])) $$ [Hcr HO Hat]
  · unfold ctx; icases Hctx with ⟨#HR, #HL⟩
    isplitr; · iexact HR
    isplitr; · iexact HL
    isplitl [Hcr]; · iexact Hcr
    isplitl [HO] <;> iassumption
  iintro ⟨HO, Hz, Hc⟩
  ihave Hc := (Entails.of_eq (show xferPay m ρ c (1, t) = cPt c t.succ (cF m ρ c) from rfl)) $$ Hc
  iapply (step_load_c m ρ c t ((k0_off8_eq k).trans (by rw [ht]))) $$ Hc; iintro Hc
  rw [wp_ret]; imodintro
  isplitr; · iexact Hctx
  isplitr; · ipureintro; rw [hacc]; rfl
  isplitl [HO]; · iexact HO
  isplitl [Hge]; · iexact Hge
  isplitl [Hc Hz]; · isplitl [Hc] <;> iassumption
  iexact Hlt

/-! ## Spreading the chunk -/

/-- What sending the chunk over distance `t + 1` needs: a share of it, the other device's slot, and the two duties. -/
def need3 (t : Fin 7) : sProp 𝕄 :=
  iprop(aTok m ρ c t ∗ (∃ f, bPt (nx c t.val) t.succ f) ∗ dutyTok ER (cell 2 c t) 0 0 ∗ dutyTok ER (cell 3 (nx c t.val) t) 0 0)
/-- What it gives: the right to wait for its own end. -/
def gave3 (t : Fin 7) : sProp 𝕄 := cred (tallyAt (cell 2 c t) () N)

/-- The spreading loop's state before trip `k`. -/
def I3 (k : ℕ) (_ : Unit) : sProp 𝕄 :=
  iprop(ctx m ρ K ∗ (∃ W, owes (c : Thread nD τ) (oA c (ge k)) W) ∗ bigSep (ge k) (need3 m ρ c) ∗ bigSep (lt k) (gave3 c))

/-- A trip of the spreading loop sends the chunk to one device. -/
theorem trip3 (k : Fin k0_t3_loop.trips) (acc : Unit) :
    I3 m ρ K c k.val acc ⊢ wp frame (wpE (defs₀ (F := F)) 𝒱₀ (c : Thread nD τ) none) Set.univ
      (k0_t3_body xM (Memref.isWhole_whole _) gM (Memref.isWhole_whole _) uM (Memref.isWhole_whole _) dM (Memref.isWhole_whole _)
        oM (Memref.isWhole_whole _) sM (Memref.isWhole_whole _) cM (Memref.isWhole_whole _) aM (Memref.isWhole_whole _) bM (Memref.isWhole_whole _)
        cc0_scratch4 cc0_scratch5 cc0_scratch6 cc0_scratch7 c k acc) (fun acc => I3 m ρ K c (k.val + 1) acc) := by
  obtain ⟨t, ht⟩ : ∃ t : Fin 7, t.val = k.val := ⟨Fin.cast trips3 k, rfl⟩
  unfold k0_t3_body
  simp only [Prog.lift, Prog.bind_op, Prog.bind_ret, Prog.pure_eq_ret]
  unfold I3
  rw [← ht, bigSep_ge t, bigSep_lt t]
  iintro ⟨#Hctx, ⟨%W, HO⟩, ⟨Hn, Hge⟩, Hlt⟩
  unfold need3 gave3
  icases Hn with ⟨Ha, Hb, Ht2, Ht3⟩
  iapply (step_chunk m ρ K c _ t (Fin.ext ((k0_dev9_eq c k).trans (by rw [nx_val, ht]))) W
    (sem_2 t ((k0_off9_eq k).trans (by rw [ht]))) (sem_3 t ((k0_off9_eq k).trans (by rw [ht])))
    (slot_at t bM ((k0_off10_eq k).trans (by rw [ht])))) $$ [Ha Hb HO Ht2 Ht3]
  · isplitr; · unfold ctx; icases Hctx with ⟨HR, -⟩; iexact HR
    isplitl [Ha]; · iexact Ha
    isplitl [Hb]; · iexact Hb
    isplitl [HO]; · iexact HO
    isplitl [Ht2] <;> iassumption
  iintro ⟨Hcr, HO⟩
  rw [wp_ret]; imodintro
  isplitr; · iexact Hctx
  isplitl [HO]; · iexists W; iexact HO
  isplitl [Hge]; · iexact Hge
  isplitl [Hcr] <;> iassumption

/-! ## Collecting the chunks -/

/-- What collecting the chunk at distance `t + 1` needs: the right to wait for it. -/
def need4 (t : Fin 7) : sProp 𝕄 := iprop(cred (tallyAt (cell 3 c t) () N) ∗ atPos ER (cell 3 c t) 0 ∅ 0)
/-- What it gives: the landed slot, and its cell at zero. -/
def gave4 (t : Fin 7) : sProp 𝕄 := iprop(bPt c t.succ (bF m ρ c) ∗ semVal (cell 3 c t) 0)

/-- The rows of the result written before trip `k`: the own chunk, and those of the `k` devices before. -/
def Filled (k : ℕ) (f : (cc0_stg4_0 : Ref sig .tc).ty.Contents (Elt F)) : Prop :=
  ∀ i : S1024x1024.Idx, (rowOf i = c ∨ ∃ t < k, rowOf i = pv c t) → f i = oF m ρ c i

/-- Row chunk of the device `t + 1` places before, written after the ones before it. -/
theorem filled_step (t : Fin 7) {f : (cc0_stg4_0 : Ref sig .tc).ty.Contents (Elt F)} (h : Filled m ρ c t.val f) :
    Filled m ρ c (t.val + 1) (fun i : S1024x1024.Idx => if rowOf i = pv c t.val then k0_pay2 (chunk1 m ρ (pv c t.val)) (inRow i) else f i) := by
  intro i hi
  have hne : pv c t.val ≠ c := by
    intro he; have := congrArg Fin.val he; rw [pv_val] at this; have h1 := c.isLt; have h2 := t.isLt; simp only [nD] at h1; omega
  by_cases hr : rowOf i = pv c t.val
  · dsimp only
    rw [if_pos hr]; unfold oF; rw [if_neg (by rw [hr]; exact hne), hr]
  · dsimp only
    rw [if_neg hr]
    refine h i ?_
    rcases hi with h0 | ⟨s, hs, h1⟩
    · exact Or.inl h0
    · refine Or.inr ⟨s, ?_, h1⟩
      rcases Nat.lt_succ_iff_lt_or_eq.mp hs with h2 | h2
      · exact h2
      · subst h2; exact absurd h1 hr

/-- After the last trip every row is written. -/
theorem filled_all {f : (cc0_stg4_0 : Ref sig .tc).ty.Contents (Elt F)} (h : Filled m ρ c 7 f) : f = oF m ρ c := by
  funext i
  refine h i ?_
  by_cases hc : rowOf i = c
  · exact Or.inl hc
  · refine Or.inr ⟨(c.val + 7 - (rowOf i).val) % 8, ?_, ?_⟩
    · have h1 := c.isLt; have h2 := (rowOf i).isLt; simp only [nD] at h1 h2
      have h3 : (rowOf i).val ≠ c.val := fun h => hc (Fin.ext h)
      omega
    · refine Fin.ext ?_; rw [pv_val]; have h1 := c.isLt; have h2 := (rowOf i).isLt; simp only [nD] at h1 h2; omega

/-- The collecting loop's state before trip `k`: the result's rows of the chunks so far are written. -/
def I4 (k : ℕ) (_ : Unit) : sProp 𝕄 :=
  iprop(ctx m ρ K ∗ (∃ W, owes (c : Thread nD τ) 0 W) ∗ (∃ f, ⌜Filled m ρ c k f⌝ ∗ oPt c f)
    ∗ bigSep (ge k) (need4 c) ∗ bigSep (lt k) (gave4 m ρ c))

/-- A trip of the collecting loop waits for a chunk and writes it into the result. -/
theorem trip4 (k : Fin k0_t4_loop.trips) (acc : Unit) :
    I4 m ρ K c k.val acc ⊢ wp frame (wpE (defs₀ (F := F)) 𝒱₀ (c : Thread nD τ) none) Set.univ
      (k0_t4_body xM (Memref.isWhole_whole _) gM (Memref.isWhole_whole _) uM (Memref.isWhole_whole _) dM (Memref.isWhole_whole _)
        oM (Memref.isWhole_whole _) sM (Memref.isWhole_whole _) cM (Memref.isWhole_whole _) aM (Memref.isWhole_whole _) bM (Memref.isWhole_whole _)
        cc0_scratch4 cc0_scratch5 cc0_scratch6 cc0_scratch7 c k acc) (fun acc => I4 m ρ K c (k.val + 1) acc) := by
  obtain ⟨t, ht⟩ : ∃ t : Fin 7, t.val = k.val := ⟨Fin.cast trips4 k, rfl⟩
  have hrow : k0_off14 c k = ![128 * (pv c t.val).val, 0] := (k0_off14_eq c k).trans (by
    rw [pv_val, ← ht]
    have h : ((c.val + 7) - t.val) % 8 = (c.val + 7 * (t.val + 1)) % 8 := by
      have h1 := c.isLt; have h2 := t.isLt; simp only [nD] at h1; omega
    rw [h])
  unfold k0_t4_body
  simp only [Prog.lift, Prog.bind_op, Prog.bind_ret, Prog.pure_eq_ret]
  unfold I4
  rw [← ht, bigSep_ge t, bigSep_lt t]
  iintro ⟨#Hctx, ⟨%W, HO⟩, ⟨%f, %hf, Ho⟩, ⟨Hn, Hge⟩, Hlt⟩
  unfold need4 gave4
  icases Hn with ⟨Hcr, Hat⟩
  iapply (step_wait m ρ K c 3 t 0 W (sem_3 t ((k0_off11_eq k).trans (by rw [ht]))) (by rw [MayWait_zero]; iintro -; iempintro)
    (by rw [slot_at t bM ((k0_off12_eq k).trans (by rw [ht]))])) $$ [Hcr HO Hat]
  · unfold ctx; icases Hctx with ⟨#HR, #HL⟩
    isplitr; · iexact HR
    isplitr; · iexact HL
    isplitl [Hcr]; · iexact Hcr
    isplitl [HO] <;> iassumption
  iintro ⟨HO, Hz, Hb⟩
  ihave Hb := (Entails.of_eq (show xferPay m ρ c (3, t) = bPt c t.succ (bF m ρ c) from rfl)) $$ Hb
  iapply (step_load_b m ρ c t ((k0_off13_eq k).trans (by rw [ht]))) $$ Hb; iintro Hb
  iapply (step_load_o c (pv c t.val) f hrow) $$ Ho; iintro Ho %v
  iapply (step_store_o c (pv c t.val) f (k0_pay2 (chunk1 m ρ (pv c t.val))) hrow) $$ Ho; iintro Ho
  rw [wp_ret]; imodintro
  isplitr; · iexact Hctx
  isplitl [HO]; · iexact HO
  isplitl [Ho]
  · iexists _
    isplitr
    · ipureintro; exact filled_step m ρ c t hf
    · iexact Ho
  isplitl [Hge]; · iexact Hge
  isplitl [Hb Hz]; · isplitl [Hb] <;> iassumption
  iexact Hlt

/-! ## Waiting for the own transfers -/

/-- What waiting for the two own transfers over distance `t + 1` needs. -/
def need5 (t : Fin 7) : sProp 𝕄 :=
  iprop((cred (tallyAt (cell 0 c t) () N) ∗ atPos ER (cell 0 c t) 0 ∅ 0) ∗ cred (tallyAt (cell 2 c t) () N) ∗ atPos ER (cell 2 c t) 0 ∅ 0)
/-- What it gives: the send slot and the share of the chunk back, and both cells at zero. -/
def gave5 (t : Fin 7) : sProp 𝕄 :=
  iprop((sPt c t.succ (sF m ρ c) ∗ semVal (cell 0 c t) 0) ∗ aTok m ρ c t ∗ semVal (cell 2 c t) 0)

/-- The last loop's state before trip `k`. -/
def I5 (k : ℕ) (_ : Unit) : sProp 𝕄 :=
  iprop(ctx m ρ K ∗ (∃ W, owes (c : Thread nD τ) 0 W) ∗ bigSep (ge k) (need5 c) ∗ bigSep (lt k) (gave5 m ρ c))

/-- A trip of the last loop waits for the partial and the chunk sent over one distance. -/
theorem trip5 (k : Fin k0_t5_loop.trips) (acc : Unit) :
    I5 m ρ K c k.val acc ⊢ wp frame (wpE (defs₀ (F := F)) 𝒱₀ (c : Thread nD τ) none) Set.univ
      (k0_t5_body xM (Memref.isWhole_whole _) gM (Memref.isWhole_whole _) uM (Memref.isWhole_whole _) dM (Memref.isWhole_whole _)
        oM (Memref.isWhole_whole _) sM (Memref.isWhole_whole _) cM (Memref.isWhole_whole _) aM (Memref.isWhole_whole _) bM (Memref.isWhole_whole _)
        cc0_scratch4 cc0_scratch5 cc0_scratch6 cc0_scratch7 k acc) (fun acc => I5 m ρ K c (k.val + 1) acc) := by
  obtain ⟨t, ht⟩ : ∃ t : Fin 7, t.val = k.val := ⟨Fin.cast trips5 k, rfl⟩
  unfold k0_t5_body
  simp only [Prog.lift, Prog.bind_op, Prog.bind_ret, Prog.pure_eq_ret]
  unfold I5
  rw [← ht, bigSep_ge t, bigSep_lt t]
  iintro ⟨#Hctx, ⟨%W, HO⟩, ⟨Hn, Hge⟩, Hlt⟩
  unfold need5 gave5
  icases Hn with ⟨⟨Hcr, Hat⟩, Hcr', Hat'⟩
  iapply (step_wait m ρ K c 0 t 0 W (sem_0 t ((k0_off15_eq k).trans (by rw [ht]))) (by rw [MayWait_zero]; iintro -; iempintro)
    (by rw [slot_at t sM ((k0_off16_eq k).trans (by rw [ht]))])) $$ [Hcr HO Hat]
  · unfold ctx; icases Hctx with ⟨#HR, #HL⟩
    isplitr; · iexact HR
    isplitr; · iexact HL
    isplitl [Hcr]; · iexact Hcr
    isplitl [HO] <;> iassumption
  iintro ⟨⟨%W', HO⟩, Hz, Hs⟩
  ihave Hs := (Entails.of_eq (show xferPay m ρ c (0, t) = sPt c t.succ (sF m ρ c) from rfl)) $$ Hs
  iapply (step_wait m ρ K c 2 t 0 W' (sem_2 t ((k0_off15_eq k).trans (by rw [ht]))) (by rw [MayWait_zero]; iintro -; iempintro)
    credit_chunk) $$ [Hcr' HO Hat']
  · unfold ctx; icases Hctx with ⟨#HR, #HL⟩
    isplitr; · iexact HR
    isplitr; · iexact HL
    isplitl [Hcr']; · iexact Hcr'
    isplitl [HO] <;> iassumption
  iintro ⟨HO, Hz', Ha⟩
  ihave Ha := (Entails.of_eq (show xferPay m ρ c (2, t) = aTok m ρ c t from rfl)) $$ Ha
  rw [wp_ret]; imodintro
  isplitr; · iexact Hctx
  isplitl [HO]; · iexact HO
  isplitl [Hge]; · iexact Hge
  isplitl [Hs Hz Ha Hz']
  · isplitl [Hs Hz]; · isplitl [Hs] <;> iassumption
    isplitl [Ha] <;> iassumption
  iexact Hlt

end Cert.Mlp
-- ==== Proof.Body.lean ====
/-
# The body on one device

The parts of the body in program order: the signals, the barrier wait, the partials sent and added up, the chunk spread
and collected. Then the pipeline's proof data, and the body obligation the launch asks for.
-/
module

public import proofs.«01_k».proof.Proof.Trips

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Option (Fin 4 × Fin 7) → ℕ) (c : Dev nD)

/-! ## The loops, whole -/

section Whole

/-- The sending loop, whole: from its state before trip 0 to its state after trip 6. -/
theorem loop1 (v2 : BitVec 32) (v3 : Sems sig S_) (v24 c8 : BitVec 32) {α : Type} {Q : α → sProp 𝕄}
    {kk : Unit → Prog (TpuEff nD τ sig (Elt F) Λ₀ .tc) α} :
    I1 m ρ K c 0 () ⊢ iprop((I1 m ρ K c 7 () -∗ wp frame (wpE (defs₀ (F := F)) 𝒱₀ (c : Thread nD τ) none) Set.univ (kk ()) Q)
      -∗ wp frame (wpE (defs₀ (F := F)) 𝒱₀ (c : Thread nD τ) none) Set.univ
        (Scf.Loop.for k0_t1_loop k0_t1_ok () (k0_t1_body xM (Memref.isWhole_whole _) gM (Memref.isWhole_whole _) uM (Memref.isWhole_whole _) dM (Memref.isWhole_whole _)
        oM (Memref.isWhole_whole _) sM (Memref.isWhole_whole _) cM (Memref.isWhole_whole _) aM (Memref.isWhole_whole _) bM (Memref.isWhole_whole _)
        cc0_scratch4 cc0_scratch5 cc0_scratch6 cc0_scratch7 c v2 v3 v24 c8) >>= kk) Q) := by
  iintro HI HK
  iapply (Scf.wp_for_bind frame (wpE (defs₀ (F := F)) 𝒱₀ (c : Thread nD τ) none) Set.univ _ _ _ _ _ _ (I1 m ρ K c) (trip1 m ρ K c v2 v3 v24 c8)) $$ HI
  iintro %acc HI
  iapply HK
  iapply (Entails.of_eq (congrArg (fun k => I1 m ρ K c k acc) trips1)); iexact HI

/-- The adding loop, whole. -/
theorem loop2 (v2 : BitVec 32) (v3 : Sems sig S_) (v24 c8 : BitVec 32) (a₀ : FVec F S128x1024 .f32) {α : Type} {Q : α → sProp 𝕄}
    {kk : FVec F S128x1024 .f32 → Prog (TpuEff nD τ sig (Elt F) Λ₀ .tc) α} :
    I2 m ρ K c 0 a₀ ⊢ iprop((∀ a, I2 m ρ K c 7 a -∗ wp frame (wpE (defs₀ (F := F)) 𝒱₀ (c : Thread nD τ) none) Set.univ (kk a) Q)
      -∗ wp frame (wpE (defs₀ (F := F)) 𝒱₀ (c : Thread nD τ) none) Set.univ
        (Scf.Loop.for k0_t2_loop k0_t2_ok a₀ (k0_t2_body xM (Memref.isWhole_whole _) gM (Memref.isWhole_whole _) uM (Memref.isWhole_whole _) dM (Memref.isWhole_whole _)
        oM (Memref.isWhole_whole _) sM (Memref.isWhole_whole _) cM (Memref.isWhole_whole _) aM (Memref.isWhole_whole _) bM (Memref.isWhole_whole _)
        cc0_scratch4 cc0_scratch5 cc0_scratch6 cc0_scratch7 c v2 v3 v24 c8) >>= kk) Q) := by
  iintro HI HK
  iapply (Scf.wp_for_bind frame (wpE (defs₀ (F := F)) 𝒱₀ (c : Thread nD τ) none) Set.univ _ _ _ _ _ _ (I2 m ρ K c) (trip2 m ρ K c v2 v3 v24 c8)) $$ HI
  iintro %acc HI
  iapply HK
  iapply (Entails.of_eq (congrArg (fun k => I2 m ρ K c k acc) trips2)); iexact HI

/-- The spreading loop, whole. -/
theorem loop3 {α : Type} {Q : α → sProp 𝕄} {kk : Unit → Prog (TpuEff nD τ sig (Elt F) Λ₀ .tc) α} :
    I3 m ρ K c 0 () ⊢ iprop((I3 m ρ K c 7 () -∗ wp frame (wpE (defs₀ (F := F)) 𝒱₀ (c : Thread nD τ) none) Set.univ (kk ()) Q)
      -∗ wp frame (wpE (defs₀ (F := F)) 𝒱₀ (c : Thread nD τ) none) Set.univ
        (Scf.Loop.for k0_t3_loop k0_t3_ok () (k0_t3_body xM (Memref.isWhole_whole _) gM (Memref.isWhole_whole _) uM (Memref.isWhole_whole _) dM (Memref.isWhole_whole _)
        oM (Memref.isWhole_whole _) sM (Memref.isWhole_whole _) cM (Memref.isWhole_whole _) aM (Memref.isWhole_whole _) bM (Memref.isWhole_whole _)
        cc0_scratch4 cc0_scratch5 cc0_scratch6 cc0_scratch7 c) >>= kk) Q) := by
  iintro HI HK
  iapply (Scf.wp_for_bind frame (wpE (defs₀ (F := F)) 𝒱₀ (c : Thread nD τ) none) Set.univ _ _ _ _ _ _ (I3 m ρ K c) (trip3 m ρ K c)) $$ HI
  iintro %acc HI
  iapply HK
  iapply (Entails.of_eq (congrArg (fun k => I3 m ρ K c k acc) trips3)); iexact HI

/-- The collecting loop, whole. -/
theorem loop4 {α : Type} {Q : α → sProp 𝕄} {kk : Unit → Prog (TpuEff nD τ sig (Elt F) Λ₀ .tc) α} :
    I4 m ρ K c 0 () ⊢ iprop((I4 m ρ K c 7 () -∗ wp frame (wpE (defs₀ (F := F)) 𝒱₀ (c : Thread nD τ) none) Set.univ (kk ()) Q)
      -∗ wp frame (wpE (defs₀ (F := F)) 𝒱₀ (c : Thread nD τ) none) Set.univ
        (Scf.Loop.for k0_t4_loop k0_t4_ok () (k0_t4_body xM (Memref.isWhole_whole _) gM (Memref.isWhole_whole _) uM (Memref.isWhole_whole _) dM (Memref.isWhole_whole _)
        oM (Memref.isWhole_whole _) sM (Memref.isWhole_whole _) cM (Memref.isWhole_whole _) aM (Memref.isWhole_whole _) bM (Memref.isWhole_whole _)
        cc0_scratch4 cc0_scratch5 cc0_scratch6 cc0_scratch7 c) >>= kk) Q) := by
  iintro HI HK
  iapply (Scf.wp_for_bind frame (wpE (defs₀ (F := F)) 𝒱₀ (c : Thread nD τ) none) Set.univ _ _ _ _ _ _ (I4 m ρ K c) (trip4 m ρ K c)) $$ HI
  iintro %acc HI
  iapply HK
  iapply (Entails.of_eq (congrArg (fun k => I4 m ρ K c k acc) trips4)); iexact HI

/-- The loop of waits for the own transfers, whole. -/
theorem loop5 {α : Type} {Q : α → sProp 𝕄} {kk : Unit → Prog (TpuEff nD τ sig (Elt F) Λ₀ .tc) α} :
    I5 m ρ K c 0 () ⊢ iprop((I5 m ρ K c 7 () -∗ wp frame (wpE (defs₀ (F := F)) 𝒱₀ (c : Thread nD τ) none) Set.univ (kk ()) Q)
      -∗ wp frame (wpE (defs₀ (F := F)) 𝒱₀ (c : Thread nD τ) none) Set.univ
        (Scf.Loop.for k0_t5_loop k0_t5_ok () (k0_t5_body xM (Memref.isWhole_whole _) gM (Memref.isWhole_whole _) uM (Memref.isWhole_whole _) dM (Memref.isWhole_whole _)
        oM (Memref.isWhole_whole _) sM (Memref.isWhole_whole _) cM (Memref.isWhole_whole _) aM (Memref.isWhole_whole _) bM (Memref.isWhole_whole _)
        cc0_scratch4 cc0_scratch5 cc0_scratch6 cc0_scratch7) >>= kk) Q) := by
  iintro HI HK
  iapply (Scf.wp_for_bind frame (wpE (defs₀ (F := F)) 𝒱₀ (c : Thread nD τ) none) Set.univ _ _ _ _ _ _ (I5 m ρ K c) (trip5 m ρ K c)) $$ HI
  iintro %acc HI
  iapply HK
  iapply (Entails.of_eq (congrArg (fun k => I5 m ρ K c k acc) trips5)); iexact HI

end Whole

/-- The device a signal names: the one `t + 1` places before is the one `7 - t` places after. -/
theorem pv_dev (t : Fin 7) {n p : ℕ} (hn : n = (c.val + p) % 8) (hp : p + t.val = 7) : n = (pv c t.val).val := by
  rw [pv_val, hn]; omega

/-! ## The middle part: from the last two signals to the own chunk summed -/

/-- What the middle part starts from, beside the shared record. -/
def mid₀ (W : Waits sig Unit) : sProp 𝕄 :=
  iprop(ins m ρ c ∗ owes (c : Thread nD τ) (oA c Finset.univ + oR c Finset.univ + oB c (lt 2)) W ∗ bigSep (lt 2) (sigNeed c)
    ∗ cred (tallyAt (barCell c) () 7) ∗ atPos ER (barCell c) 0 ∅ 0
    ∗ (bigSep Finset.univ fun t : Fin 7 => iprop(∃ f, sPt c t.succ f))
    ∗ (bigSep Finset.univ fun t : Fin 7 => dutyTok ER (cell 0 c t) 0 0)
    ∗ (bigSep Finset.univ fun t : Fin 7 => dutyTok ER (cell 1 (nx c t.val) t) 0 0)
    ∗ bigSep Finset.univ (need2 c))
/-- What it ends with. -/
def mid₁ : sProp 𝕄 :=
  iprop(ins m ρ c ∗ (∃ W, owes (c : Thread nD τ) (oA c Finset.univ) W) ∗ semVal (barCell c) 0
    ∗ (bigSep Finset.univ fun t : Fin 7 => iprop(∃ f, bPt (nx c t.val) t.succ f))
    ∗ bigSep Finset.univ (gave1 c) ∗ bigSep Finset.univ (gave2 m ρ c))

set_option maxHeartbeats 800000 in
/-- The middle part, from `mid₀` to `mid₁`: it returns the own chunk summed over all devices. -/
theorem wp_mid (W : Waits sig Unit) (v2 v24 c8 : BitVec 32) {Q : FVec F S128x1024 .f32 → sProp 𝕄} :
    iprop(ctx m ρ K ∗ mid₀ m ρ c W) ⊢ iprop((mid₁ m ρ c -∗ Q (red m ρ c 7))
      -∗ wp frame (wpE (defs₀ (F := F)) 𝒱₀ (c : Thread nD τ) none) Set.univ
        (k0_part3 xM (Memref.isWhole_whole _) gM (Memref.isWhole_whole _) uM (Memref.isWhole_whole _) dM (Memref.isWhole_whole _)
        oM (Memref.isWhole_whole _) sM (Memref.isWhole_whole _) cM (Memref.isWhole_whole _) aM (Memref.isWhole_whole _) bM (Memref.isWhole_whole _)
        cc0_scratch4 cc0_scratch5 cc0_scratch6 cc0_scratch7 c v2 (SemArray.scalar (sig.barrier 0 rfl)) v24 c8) Q) := by
  rw [k0_part3_eq_skeleton]; unfold k0_part3_skel
  simp only [semSignalWord, semWaitWord, Prog.lift, Prog.bind_op, Prog.bind_ret, Prog.pure_eq_ret]
  unfold mid₀
  iintro ⟨#Hctx, Hin, HO, Hsig, Hcb, Hab, Hs, Ht0, Ht1, Hn2⟩ Hk
  iapply (step_signal m ρ K c _ 1 (Fin.ext (pv_dev c 1 (k0_dev6_eq c) rfl)) (oA c Finset.univ + oR c Finset.univ) W (by decide)) $$ [HO Hsig]
  · isplitr; · unfold ctx; icases Hctx with ⟨HR, -⟩; iexact HR
    isplitl [HO]; · iexact HO
    iexact Hsig
  iintro ⟨HO, Hsig⟩
  iapply (step_signal m ρ K c _ 0 (Fin.ext (pv_dev c 0 (k0_dev7_eq c) rfl)) (oA c Finset.univ + oR c Finset.univ) W (by decide)) $$ [HO Hsig]
  · isplitr; · unfold ctx; icases Hctx with ⟨HR, -⟩; iexact HR
    isplitl [HO]; · iexact HO
    iexact Hsig
  iintro ⟨HO, -⟩
  ihave HO := (Entails.of_eq (show (owes (c : Thread nD τ) (oA c Finset.univ + oR c Finset.univ + oB c (lt (0 : Fin 7).val)) W : sProp 𝕄)
    = owes (c : Thread nD τ) (oA c Finset.univ + oR c Finset.univ) W from by
      rw [show lt (0 : Fin 7).val = ∅ from lt_zero]; unfold oB; rw [Finset.sum_empty, add_zero])) $$ HO
  iapply (step_barrier m ρ K c W (by decide)) $$ [HO Hcb Hab]
  · unfold ctx; icases Hctx with ⟨#HR, #HL⟩
    isplitr; · iexact HR
    isplitr; · iexact HL
    isplitl [Hcb]; · iexact Hcb
    isplitl [HO] <;> iassumption
  iintro ⟨HO, Hzb, Hpay⟩
  ihave ⟨Hc, Hb⟩ := (Entails.of_eq (show (bigSep Finset.univ fun t : Fin 7 => (barPay c t : sProp 𝕄))
    = iprop((bigSep Finset.univ fun t : Fin 7 => iprop(∃ f, cPt (nx c t.val) t.succ f)) ∗ bigSep Finset.univ fun t : Fin 7 => iprop(∃ f, bPt (nx c t.val) t.succ f))
      from bigSep_sep' _ _ _)) $$ Hpay
  -- the partials sent
  iapply (loop1 m ρ K c _ _ _ _) $$ [Hin HO Hs Hc Ht0 Ht1]
  · unfold I1 need1
    rw [ge_zero, lt_zero, bigSep_empty, bigSep_sep', bigSep_sep', bigSep_sep']
    isplitr; · iexact Hctx
    isplitl [Hin]; · iexact Hin
    isplitl [HO]; · iexists _; iexact HO
    isplitl
    · isplitl [Hs]; · iexact Hs
      isplitl [Hc]; · iexact Hc
      isplitl [Ht0] <;> iassumption
    · iempintro
  unfold I1
  rw [ge_seven, lt_seven, bigSep_empty]
  iintro ⟨-, Hin, ⟨%W', HO⟩, -, Hg1⟩
  ihave HO := (Entails.of_eq (show (owes (c : Thread nD τ) (oA c Finset.univ + oR c ∅) W' : sProp 𝕄)
    = owes (c : Thread nD τ) (oA c Finset.univ) W' from by unfold oR; rw [Finset.sum_empty, add_zero])) $$ HO
  unfold ins
  icases Hin with ⟨Hx, Hg, Hu, Hd⟩
  iapply (step_load_x m ρ c c (k0_off5_eq c)) $$ Hx; iintro Hx
  iapply (wp_load 𝒱₀ (c : Thread nD τ) none Set.univ (m := gM) (Finset.subset_univ _)) $$ Hg; iintro Hg
  iapply (wp_load 𝒱₀ (c : Thread nD τ) none Set.univ (m := uM) (Finset.subset_univ _)) $$ Hu; iintro Hu
  iapply (wp_load 𝒱₀ (c : Thread nD τ) none Set.univ (m := dM) (Finset.subset_univ _)) $$ Hd; iintro Hd
  rw [read_wg, read_wu, read_wd]
  -- the partials added up
  iapply (loop2 m ρ K c _ _ _ _ _) $$ [HO Hn2]
  · unfold I2
    rw [ge_zero, lt_zero, bigSep_empty]
    isplitr; · iexact Hctx
    isplitr; · ipureintro; rfl
    isplitl [HO]; · iexists _; iexact HO
    isplitl [Hn2]; · iexact Hn2
    iempintro
  unfold I2
  rw [ge_seven, lt_seven, bigSep_empty]
  iintro %a ⟨-, %ha, HO, -, Hg2⟩
  subst ha
  rw [wp_ret]; imodintro
  iapply Hk
  unfold mid₁ ins
  isplitl [Hx Hg Hu Hd]
  · isplitl [Hx]; · iexact Hx
    isplitl [Hg]; · iexact Hg
    isplitl [Hu] <;> iassumption
  isplitl [HO]; · iexact HO
  isplitl [Hzb]; · iexact Hzb
  isplitl [Hb]; · iexact Hb
  isplitl [Hg1] <;> iassumption

/-! ## The pipeline's proof data -/

/-- Device `c`'s positions at its seven cells of kind `k`, all at the start of round 0. -/
def pos (k : Fin 4) : sProp 𝕄 := bigSep Finset.univ fun t : Fin 7 => atPos ER (cell k c t) 0 ∅ 0
/-- The credits of its seven cells of kind `k`. -/
def crd (k : Fin 4) : sProp 𝕄 := bigSep Finset.univ fun t : Fin 7 => cred (tallyAt (cell k c t) () N)
/-- Its seven cells of kind `k`, at zero. -/
def zer (k : Fin 4) : sProp 𝕄 := bigSep Finset.univ fun t : Fin 7 => semVal (cell k c t) 0
/-- The four transfer semaphores nothing uses. -/
def idle : sProp 𝕄 := bigSep Finset.univ fun k : Fin 4 => semVal ((c : Thread nD τ), .dma (sm k 0)) 0
/-- The tokens of the duties device `c` pays at the others' barriers; -/
def tokB : sProp 𝕄 := bigSep Finset.univ fun t : Fin 7 => dutyTok ER (barCell (pv c t.val)) 0 t
/-- of those at its own cells of kind `k`; -/
def tokS (k : Fin 4) : sProp 𝕄 := bigSep Finset.univ fun t : Fin 7 => dutyTok ER (cell k c t) 0 0
/-- and of those at the cells of kind `k` of the devices it sends to. -/
def tokD (k : Fin 4) : sProp 𝕄 := bigSep Finset.univ fun t : Fin 7 => dutyTok ER (cell k (nx c t.val) t) 0 0

/-- The protocol's state at the start of device `c`: the record, its positions, its tokens. -/
def ghost : sProp 𝕄 :=
  iprop(records m ρ K ∗ (atPos ER (barCell c) 0 ∅ 0 ∗ pos c 0 ∗ pos c 1 ∗ pos c 2 ∗ pos c 3)
    ∗ tokB c ∗ tokS c 0 ∗ tokD c 1 ∗ tokS c 2 ∗ tokD c 3)

/-- What device `c`'s body starts from: that at some names, the credits of what the others will pay it, the levels, and
    the semaphores nothing uses. -/
def start : sProp 𝕄 :=
  iprop((∃ K, ghost m ρ K c) ∗ levAts L lv ∗ cred (tallyAt (barCell c) () 7) ∗ crd c 1 ∗ crd c 3 ∗ idle c)

/-- The four scratch buffers, at some contents. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- Before the body: the protocol's start, and the scratch buffers. -/
def Φ₀ : sProp 𝕄 := iprop(start m ρ c ∗ scratch c)
/-- After the body: the scratch buffers, and every semaphore at zero. -/
def Φ₁ : sProp 𝕄 := iprop(scratch c ∗ semVal (barCell c) 0 ∗ zer c 0 ∗ zer c 1 ∗ zer c 2 ∗ zer c 3 ∗ idle c)

/-- The pipeline's data on device `c`: the arrays as launched, the staging buffers after the body, what the body takes and
    leaves, and what the device owes before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => wg m ρ c
    | ⟨2, _⟩ => wu m ρ c
    | ⟨3, _⟩ => wd m ρ c
    | ⟨4, _⟩ => oF m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The grid has one point. -/
theorem cfg0_N : cfg0.N = 1 := by decide
/-- That point. -/
def t₀ : Fin cfg0.N := ⟨0, by rw [cfg0_N]; decide⟩
/-- Every point is that one. -/
theorem fin_N (t : Fin cfg0.N) : t = t₀ := by
  obtain ⟨t, ht⟩ := t; have := cfg0_N; exact Fin.ext (by simp only [t₀]; omega)

/-- A conjunction over the five windows, written out. -/
theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

/-- The first argument is fetched. -/
theorem fetch_in0 (t : Fin cfg0.N) : (cfg0.win (0 : Fin 5)).fetch t = true := by rw [fin_N t]; rfl
/-- The second argument is fetched. -/
theorem fetch_in1 (t : Fin cfg0.N) : (cfg0.win (1 : Fin 5)).fetch t = true := by rw [fin_N t]; rfl
/-- The third argument is fetched. -/
theorem fetch_in2 (t : Fin cfg0.N) : (cfg0.win (2 : Fin 5)).fetch t = true := by rw [fin_N t]; rfl
/-- The fourth argument is fetched. -/
theorem fetch_in3 (t : Fin cfg0.N) : (cfg0.win (3 : Fin 5)).fetch t = true := by rw [fin_N t]; rfl

/-- Owning a whole buffer at contents `X` is holding its every element, at contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The whole body -/

/-- Buffer `b` of device `c` held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's start and end, the windows' staging buffers named. -/
def bodyPre : sProp 𝕄 :=
  iprop((ghost m ρ K c ∗ levAts L lv ∗ cred (tallyAt (barCell c) () 7) ∗ crd c 1 ∗ crd c 3 ∗ idle c ∗ scratch c)
    ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
/-- The body's end, likewise. -/
def bodyPost : sProp 𝕄 :=
  iprop(Φ₁ c ∗ (dats m ρ 0 c).owesAt () t₀.succ ∗ stg c cc0_stg0_0 (xs m ρ c) ∗ stg c cc0_stg1_0 (wg m ρ c)
    ∗ stg c cc0_stg2_0 (wu m ρ c) ∗ stg c cc0_stg3_0 (wd m ρ c) ∗ stg c cc0_stg4_0 (oF m ρ c))

/-- Two conjunctions over the same indices are one of pairs; -/
theorem sep_up {I : Type} (s : Finset I) (Φ Ψ : I → sProp 𝕄) : iprop(bigSep s Φ ∗ bigSep s Ψ) ⊢ bigSep s fun i => iprop(Φ i ∗ Ψ i) :=
  Entails.of_eq (bigSep_sep' s Φ Ψ).symm
/-- and back. -/
theorem sep_down {I : Type} (s : Finset I) (Φ Ψ : I → sProp 𝕄) : (bigSep s fun i => iprop(Φ i ∗ Ψ i)) ⊢ iprop(bigSep s Φ ∗ bigSep s Ψ) :=
  Entails.of_eq (bigSep_sep' s Φ Ψ)

/-- What the adding loop has given: the landed partials, and its cells at zero. -/
theorem gave2_down : (bigSep Finset.univ (gave2 m ρ c) : sProp 𝕄)
    ⊢ iprop((bigSep Finset.univ fun t : Fin 7 => cPt c t.succ (cF m ρ c)) ∗ bigSep Finset.univ fun t : Fin 7 => semVal (cell 1 c t) 0) :=
  sep_down Finset.univ (fun t : Fin 7 => cPt c t.succ (cF m ρ c)) (fun t : Fin 7 => semVal (cell 1 c t) 0)
/-- What the collecting loop has given: the landed chunks, and its cells at zero. -/
theorem gave4_down : (bigSep Finset.univ (gave4 m ρ c) : sProp 𝕄)
    ⊢ iprop((bigSep Finset.univ fun t : Fin 7 => bPt c t.succ (bF m ρ c)) ∗ bigSep Finset.univ fun t : Fin 7 => semVal (cell 3 c t) 0) :=
  sep_down Finset.univ (fun t : Fin 7 => bPt c t.succ (bF m ρ c)) (fun t : Fin 7 => semVal (cell 3 c t) 0)
/-- What the last loop has given: the send slots and the shares of the chunk back, and its cells at zero. -/
theorem gave5_down : (bigSep Finset.univ (gave5 m ρ c) : sProp 𝕄)
    ⊢ iprop(((bigSep Finset.univ fun t : Fin 7 => sPt c t.succ (sF m ρ c)) ∗ bigSep Finset.univ fun t : Fin 7 => semVal (cell 0 c t) 0)
      ∗ (bigSep Finset.univ fun t : Fin 7 => aTok m ρ c t) ∗ bigSep Finset.univ fun t : Fin 7 => semVal (cell 2 c t) 0) := by
  rw [show (bigSep Finset.univ (gave5 m ρ c) : sProp 𝕄) = bigSep Finset.univ fun t : Fin 7 =>
    iprop((sPt c t.succ (sF m ρ c) ∗ semVal (cell 0 c t) 0) ∗ aTok m ρ c t ∗ semVal (cell 2 c t) 0) from rfl, bigSep_sep', bigSep_sep', bigSep_sep']

/-- The barrier's needs, gathered. -/
theorem sigNeed_intro : iprop(tokB c ∗ (bigSep Finset.univ fun t : Fin 7 => iprop(∃ f, cPt c t.succ f)) ∗ bigSep Finset.univ fun t : Fin 7 => iprop(∃ f, bPt c t.succ f))
    ⊢ (bigSep (lt 7) (sigNeed c) : sProp 𝕄) := by
  rw [lt_seven, show (bigSep Finset.univ (sigNeed c) : sProp 𝕄) = bigSep Finset.univ fun t : Fin 7 =>
    iprop(dutyTok ER (barCell (pv c t.val)) 0 t ∗ (∃ f, cPt c t.succ f) ∗ ∃ f, bPt c t.succ f) from rfl, bigSep_sep', bigSep_sep']
  exact BIBase.Entails.refl

/-- A scratch buffer, opened into slot 0 and the seven others. -/
theorem s_open : (iprop(∃ f : Buf (Elt F) ((c : Thread nD τ).loc cc0_scratch0), ((c : Thread nD τ).loc cc0_scratch0) ↦{fullShare} f) : sProp 𝕄)
    ⊢ iprop((∃ f, sPt c 0 f) ∗ bigSep Finset.univ fun t : Fin 7 => iprop(∃ f, sPt c t.succ f)) := by
  iintro ⟨%f, H⟩
  ihave ⟨H0, H⟩ := (Entails.of_eq (s_split c f)) $$ H
  have h : (bigSep Finset.univ fun t : Fin 7 => (sPt c t.succ f : sProp 𝕄)) ⊢ bigSep Finset.univ fun t : Fin 7 => iprop(∃ f, sPt c t.succ f) :=
    bigSep_mono fun t _ => show (sPt c t.succ f : sProp 𝕄) ⊢ iprop(∃ f, sPt c t.succ f) from by iintro H; iexists f; iexact H
  isplitl [H0]; · iexists f; iexact H0
  iapply h; iexact H
/-- The landing buffer, opened likewise. -/
theorem c_open : (iprop(∃ f : Buf (Elt F) ((c : Thread nD τ).loc cc0_scratch1), ((c : Thread nD τ).loc cc0_scratch1) ↦{fullShare} f) : sProp 𝕄)
    ⊢ iprop((∃ f, cPt c 0 f) ∗ bigSep Finset.univ fun t : Fin 7 => iprop(∃ f, cPt c t.succ f)) := by
  iintro ⟨%f, H⟩
  ihave ⟨H0, H⟩ := (Entails.of_eq (c_split c f)) $$ H
  have h : (bigSep Finset.univ fun t : Fin 7 => (cPt c t.succ f : sProp 𝕄)) ⊢ bigSep Finset.univ fun t : Fin 7 => iprop(∃ f, cPt c t.succ f) :=
    bigSep_mono fun t _ => show (cPt c t.succ f : sProp 𝕄) ⊢ iprop(∃ f, cPt c t.succ f) from by iintro H; iexists f; iexact H
  isplitl [H0]; · iexists f; iexact H0
  iapply h; iexact H
/-- The landing buffer of chunks, opened likewise. -/
theorem b_open : (iprop(∃ f : Buf (Elt F) ((c : Thread nD τ).loc cc0_scratch3), ((c : Thread nD τ).loc cc0_scratch3) ↦{fullShare} f) : sProp 𝕄)
    ⊢ iprop((∃ f, bPt c 0 f) ∗ bigSep Finset.univ fun t : Fin 7 => iprop(∃ f, bPt c t.succ f)) := by
  iintro ⟨%f, H⟩
  ihave ⟨H0, H⟩ := (Entails.of_eq (b_split c f)) $$ H
  have h : (bigSep Finset.univ fun t : Fin 7 => (bPt c t.succ f : sProp 𝕄)) ⊢ bigSep Finset.univ fun t : Fin 7 => iprop(∃ f, bPt c t.succ f) :=
    bigSep_mono fun t _ => show (bPt c t.succ f : sProp 𝕄) ⊢ iprop(∃ f, bPt c t.succ f) from by iintro H; iexists f; iexact H
  isplitl [H0]; · iexists f; iexact H0
  iapply h; iexact H

/-- The chunk buffer holding the chunk, cut into the seven transfers' shares and the rest. -/
theorem a_open : (((c : Thread nD τ).loc cc0_scratch2) ↦{fullShare} chunk m ρ c : sProp 𝕄)
    ⊢ iprop((((c : Thread nD τ).loc cc0_scratch2) ↦{Transfers.shareDrop fullShare 7} chunk m ρ c) ∗ bigSep Finset.univ fun t : Fin 7 => aTok m ρ c t) := by
  have h := Transfers.pointsTo_toks_split (Ix := Unit) (Name := ℕ) (U := UU) (Lvl := ℕ) (ℓ := (c : Thread nD τ).loc cc0_scratch2) (S := Finset.univ) (f := chunk m ρ c) fullShare 7
  refine BIBase.Entails.trans h (Entails.of_eq ?_)
  refine congrArg (fun X => iprop((((c : Thread nD τ).loc cc0_scratch2) ↦{Transfers.shareDrop fullShare 7} chunk m ρ c) ∗ X)) (bigSep_congr fun t _ => ?_)
  unfold aTok; rw [show (aM : Memref sig .tc .vmem S128x1024 .bf16).view.set = Finset.univ from View.set_whole _]
/-- The seven shares and the rest, joined to the whole chunk buffer. -/
theorem a_close : iprop((((c : Thread nD τ).loc cc0_scratch2) ↦{Transfers.shareDrop fullShare 7} chunk m ρ c) ∗ bigSep Finset.univ fun t : Fin 7 => aTok m ρ c t)
    ⊢ (((c : Thread nD τ).loc cc0_scratch2) ↦{fullShare} chunk m ρ c : sProp 𝕄) := by
  have h := Transfers.pointsTo_toks_join (Ix := Unit) (Name := ℕ) (U := UU) (Lvl := ℕ) (ℓ := (c : Thread nD τ).loc cc0_scratch2) (S := Finset.univ) (f := chunk m ρ c) fullShare 7
  refine BIBase.Entails.trans (Entails.of_eq ?_) h
  refine congrArg (fun X => iprop((((c : Thread nD τ).loc cc0_scratch2) ↦{Transfers.shareDrop fullShare 7} chunk m ρ c) ∗ X)) (bigSep_congr fun t _ => ?_)
  unfold aTok; rw [show (aM : Memref sig .tc .vmem S128x1024 .bf16).view.set = Finset.univ from View.set_whole _]

/-- A store of the whole chunk buffer leaves what was stored. -/
theorem write_a (f w : (cc0_scratch2 : Ref sig .tc).ty.Contents (Elt F)) (h) :
    ((aM : Memref sig .tc .vmem S128x1024 .bf16).access (Rect.unit (s := S128x1024) ![0, 0] S128x1024.size h) : View sig .tc _ _ _).write (Elt F) f w Finset.univ = w :=
  Memref.write_access_unit_zero_univ (Elt F) cc0_scratch2 hz _ f w

/-- The own chunk written is the start of the result's rows. -/
theorem filled_own (f : (cc0_stg4_0 : Ref sig .tc).ty.Contents (Elt F)) :
    Filled m ρ c 0 (fun i : S1024x1024.Idx => if rowOf i = c then red m ρ c 7 (inRow i) else f i) := by
  intro i hi
  have hr : rowOf i = c := hi.elim id fun ⟨_, h, _⟩ => absurd h (Nat.not_lt_zero _)
  dsimp only; unfold oF; rw [if_pos hr, if_pos hr]

set_option maxHeartbeats 1600000 in
/-- The body of device `c`, effect by effect, from `bodyPre` to `bodyPost`. -/
theorem sound_body (Kt : PUnit → sProp 𝕄) :
    iprop(bodyPre m ρ K c ∗ (bodyPost m ρ c -∗ Kt ⟨⟩))
      ⊢ wp frame (wpE (defs₀ (F := F)) 𝒱₀ c none) Set.univ
          (cc0_body xM (Memref.isWhole_whole _) gM (Memref.isWhole_whole _) uM (Memref.isWhole_whole _) dM (Memref.isWhole_whole _)
            oM (Memref.isWhole_whole _) sM (Memref.isWhole_whole _) cM (Memref.isWhole_whole _) aM (Memref.isWhole_whole _) bM (Memref.isWhole_whole _)
            cc0_scratch4 cc0_scratch5 cc0_scratch6 cc0_scratch7) Kt := by
  simp only [cc0_body_eq_skeleton]; unfold cc0_body_skel
  simp only [k0_part2_eq_skeleton]; unfold k0_part2_skel
  simp only [semSignalWord, semWaitWord, Prog.lift, Prog.bind_op, Prog.bind_ret, Prog.pure_eq_ret, wp_deviceId]
  unfold bodyPre ghost scratch tokS tokD crd pos
  iintro ⟨⟨⟨⟨#HR, ⟨Hab, Hp0, Hp1, Hp2, Hp3⟩, HtB, Ht0, Ht1, Ht2, Ht3⟩, #HL, Hcb, Hc1, Hc3, Hidle, Hss, Hsc, ⟨%fa, Hsa⟩, Hsb⟩,
    Ho, ⟨%d0, %g0, %hg0, Hx⟩, ⟨%d1, %g1, %hg1, Hg⟩, ⟨%d2, %g2, %hg2, Hu⟩, ⟨%d3, %g3, %hg3, Hd⟩, ⟨%d4, %g4, %hg4, Hout⟩⟩, Hk⟩
  have h0 : g0 = xs m ρ c := by rw [hg0]; unfold Dat.before; rw [if_pos (fetch_in0 t₀)]; rfl
  have h1 : g1 = wg m ρ c := by rw [hg1]; unfold Dat.before; rw [if_pos (fetch_in1 t₀)]; rfl
  have h2 : g2 = wu m ρ c := by rw [hg2]; unfold Dat.before; rw [if_pos (fetch_in2 t₀)]; rfl
  have h3 : g3 = wd m ρ c := by rw [hg3]; unfold Dat.before; rw [if_pos (fetch_in3 t₀)]; rfl
  subst h0 h1 h2 h3
  unfold Dat.owesAt Pipeline.owesWithin
  icases Ho with ⟨%W, %hW, HO⟩
  ihave HO := (Entails.of_eq (show (owes (c : Thread nD τ) ((dats m ρ 0 c).owed t₀.castSucc) W : sProp 𝕄)
    = owes (c : Thread nD τ) (oA c Finset.univ + oR c Finset.univ + oB c (lt ((6 : Fin 7).val + 1))) W from rfl)) $$ HO
  ihave ⟨⟨%fs, Hs0⟩, Hs⟩ := (s_open c) $$ Hss
  ihave ⟨⟨%fc, Hc0⟩, Hc⟩ := (c_open c) $$ Hsc
  ihave ⟨⟨%fb, Hb0⟩, Hb⟩ := (b_open c) $$ Hsb
  ihave Hsig := (sigNeed_intro c) $$ [HtB Hc Hb]
  · isplitl [HtB]; · iexact HtB
    isplitl [Hc] <;> iassumption
  -- the first five signals
  iapply (step_signal m ρ K c _ 6 (Fin.ext (pv_dev c 6 (k0_dev1_eq c) rfl)) (oA c Finset.univ + oR c Finset.univ) W (by decide)) $$ [HO Hsig]
  · isplitr; · iexact HR
    isplitl [HO]; · iexact HO
    iexact Hsig
  iintro ⟨HO, Hsig⟩
  iapply (step_signal m ρ K c _ 5 (Fin.ext (pv_dev c 5 (k0_dev2_eq c) rfl)) (oA c Finset.univ + oR c Finset.univ) W (by decide)) $$ [HO Hsig]
  · isplitr; · iexact HR
    isplitl [HO]; · iexact HO
    iexact Hsig
  iintro ⟨HO, Hsig⟩
  iapply (step_signal m ρ K c _ 4 (Fin.ext (pv_dev c 4 (k0_dev3_eq c) rfl)) (oA c Finset.univ + oR c Finset.univ) W (by decide)) $$ [HO Hsig]
  · isplitr; · iexact HR
    isplitl [HO]; · iexact HO
    iexact Hsig
  iintro ⟨HO, Hsig⟩
  iapply (step_signal m ρ K c _ 3 (Fin.ext (pv_dev c 3 (k0_dev4_eq c) rfl)) (oA c Finset.univ + oR c Finset.univ) W (by decide)) $$ [HO Hsig]
  · isplitr; · iexact HR
    isplitl [HO]; · iexact HO
    iexact Hsig
  iintro ⟨HO, Hsig⟩
  iapply (step_signal m ρ K c _ 2 (Fin.ext (pv_dev c 2 (k0_dev5_eq c) rfl)) (oA c Finset.univ + oR c Finset.univ) W (by decide)) $$ [HO Hsig]
  · isplitr; · iexact HR
    isplitl [HO]; · iexact HO
    iexact Hsig
  iintro ⟨HO, Hsig⟩
  -- the middle part
  rw [wp_bind]
  iapply (wp_mid m ρ K c W _ _ _) $$ [Hx Hg Hu Hd HO Hsig Hcb Hab Hs Ht0 Ht1 Hc1 Hp1]
  · unfold ctx mid₀ ins
    isplitr
    · isplitr; · iexact HR
      iexact HL
    isplitl [Hx Hg Hu Hd]
    · isplitl [Hx]; · iexact Hx
      isplitl [Hg]; · iexact Hg
      isplitl [Hu] <;> iassumption
    isplitl [HO]; · iexact HO
    isplitl [Hsig]; · iexact Hsig
    isplitl [Hcb]; · iexact Hcb
    isplitl [Hab]; · iexact Hab
    isplitl [Hs]; · iexact Hs
    isplitl [Ht0]; · iexact Ht0
    isplitl [Ht1]; · iexact Ht1
    iapply (sep_up Finset.univ (fun t : Fin 7 => cred (tallyAt (cell 1 c t) () N)) (fun t : Fin 7 => atPos ER (cell 1 c t) 0 ∅ 0))
    isplitl [Hc1]; · iexact Hc1
    iexact Hp1
  unfold mid₁
  iintro ⟨Hin, ⟨%W', HO⟩, Hzb, Hb, Hg1, Hg2⟩
  -- the own chunk of the result, and the chunk to spread
  iapply (step_load_o c c g4 (k0_off5_eq c)) $$ Hout; iintro Hout %v
  iapply (step_store_o c c g4 (red m ρ c 7) (k0_off5_eq c)) $$ Hout; iintro Hout
  iapply (wp_load 𝒱₀ (c : Thread nD τ) none Set.univ (m := aM) (Finset.subset_univ _)) $$ Hsa; iintro Hsa
  iapply (wp_store 𝒱₀ (c : Thread nD τ) none Set.univ (m := aM) (r := Rect.unit (s := S128x1024) ![0, 0] S128x1024.size inb_S128x1024_S128x1024_0_0) (Mk := Finset.univ) (Finset.subset_univ _)) $$ Hsa; iintro Hsa
  rw [write_a]
  ihave Hsa := (Entails.of_eq (show ((((c : Thread nD τ).loc cc0_scratch2) ↦{fullShare} k0_pay1 (red m ρ c 7)) : sProp 𝕄)
    = (((c : Thread nD τ).loc cc0_scratch2) ↦{fullShare} chunk m ρ c) from rfl)) $$ Hsa
  ihave ⟨Har, Ha⟩ := (a_open m ρ c) $$ Hsa
  -- the chunk spread
  iapply (loop3 m ρ K c) $$ [HO Ha Hb Ht2 Ht3]
  · unfold I3 need3 ctx
    rw [ge_zero, lt_zero, bigSep_empty, bigSep_sep', bigSep_sep', bigSep_sep']
    isplitr
    · isplitr; · iexact HR
      iexact HL
    isplitl [HO]; · iexists W'; iexact HO
    isplitl
    · isplitl [Ha]; · iexact Ha
      isplitl [Hb]; · iexact Hb
      isplitl [Ht2]; · iexact Ht2
      iexact Ht3
    · iempintro
  unfold I3
  rw [ge_seven, lt_seven, bigSep_empty]
  iintro ⟨-, ⟨%W'', HO⟩, -, Hg3⟩
  ihave HO := (Entails.of_eq (show (owes (c : Thread nD τ) (oA c ∅) W'' : sProp 𝕄) = owes (c : Thread nD τ) 0 W'' from by
    unfold oA; rw [Finset.sum_empty])) $$ HO
  -- the chunks collected
  iapply (loop4 m ρ K c) $$ [HO Hout Hc3 Hp3]
  · unfold I4 need4 ctx
    rw [ge_zero, lt_zero, bigSep_empty, bigSep_sep']
    isplitr
    · isplitr; · iexact HR
      iexact HL
    isplitl [HO]; · iexists W''; iexact HO
    isplitl [Hout]
    · iexists _; isplitr
      · ipureintro; exact filled_own m ρ c g4
      · iexact Hout
    isplitl
    · isplitl [Hc3]; · iexact Hc3
      iexact Hp3
    · iempintro
  unfold I4
  rw [ge_seven, lt_seven, bigSep_empty]
  iintro ⟨-, HO, ⟨%fo, %hfo, Hout⟩, -, Hg4⟩
  have hfo := filled_all m ρ c hfo
  subst hfo
  -- the own transfers waited for
  iapply (loop5 m ρ K c) $$ [HO Hg1 Hp0 Hg3 Hp2]
  · unfold I5 need5 ctx
    rw [ge_zero, lt_zero, bigSep_empty, bigSep_sep', bigSep_sep', bigSep_sep']
    isplitr
    · isplitr; · iexact HR
      iexact HL
    isplitl [HO]; · iexact HO
    isplitl
    · isplitl [Hg1 Hp0]
      · isplitl [Hg1]; · iexact Hg1
        iexact Hp0
      isplitl [Hg3]; · iexact Hg3
      iexact Hp2
    · iempintro
  unfold I5
  rw [ge_seven, lt_seven, bigSep_empty]
  iintro ⟨-, ⟨%W₅, HO⟩, -, Hg5⟩
  rw [wp_ret]; imodintro
  iapply Hk
  -- what is held, put together
  unfold bodyPost Φ₁ scratch zer Dat.owesAt Pipeline.owesWithin ins
  ihave ⟨⟨Hs, Hz0⟩, Ha, Hz2⟩ := (gave5_down m ρ c) $$ Hg5
  ihave ⟨Hc, Hz1⟩ := (gave2_down m ρ c) $$ Hg2
  ihave ⟨Hb, Hz3⟩ := (gave4_down m ρ c) $$ Hg4
  ihave Hss := (s_join c fs fun _ => sF m ρ c) $$ [Hs0 Hs]; · isplitl [Hs0] <;> iassumption
  ihave Hsc := (c_join c fc fun _ => cF m ρ c) $$ [Hc0 Hc]; · isplitl [Hc0] <;> iassumption
  ihave Hsb := (b_join c fb fun _ => bF m ρ c) $$ [Hb0 Hb]; · isplitl [Hb0] <;> iassumption
  ihave Hsa := (a_close m ρ c) $$ [Har Ha]; · isplitl [Har] <;> iassumption
  icases Hin with ⟨Hx, Hg, Hu, Hd⟩
  isplitl [Hss Hsc Hsa Hsb Hzb Hz0 Hz1 Hz2 Hz3 Hidle]
  · isplitl [Hss Hsc Hsa Hsb]
    · isplitl [Hss]; · iexact Hss
      isplitl [Hsc]; · iexact Hsc
      isplitl [Hsa]; · iexists _; iexact Hsa
      iexact Hsb
    isplitl [Hzb]; · iexact Hzb
    isplitl [Hz0]; · iexact Hz0
    isplitl [Hz1]; · iexact Hz1
    isplitl [Hz2]; · iexact Hz2
    isplitl [Hz3]; · iexact Hz3
    iexact Hidle
  isplitl [HO]
  · iexists W₅
    isplitr; · ipureintro; exact fun _ _ => Or.inl trivial
    iexact HO
  isplitl [Hx]
  · iexists _; isplitr; · (ipureintro; rfl)
    iexact Hx
  isplitl [Hg]
  · iexists _; isplitr; · (ipureintro; rfl)
    iexact Hg
  isplitl [Hu]
  · iexists _; isplitr; · (ipureintro; rfl)
    iexact Hu
  isplitl [Hd]
  · iexists _; isplitr; · (ipureintro; rfl)
    iexact Hd
  iexists _; isplitr; · (ipureintro; rfl)
  iexact Hout

/-- The body's start as the pipeline states it, the names of the protocol's record not yet chosen. -/
def bodyPre' : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))

set_option maxRecDepth 4000 in
/-- The pipeline's body obligation on device `c`. -/
theorem body_obligation : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body xM (Memref.isWhole_whole _) gM (Memref.isWhole_whole _) uM (Memref.isWhole_whole _) dM (Memref.isWhole_whole _)
      oM (Memref.isWhole_whole _) sM (Memref.isWhole_whole _) cM (Memref.isWhole_whole _) aM (Memref.isWhole_whole _) bM (Memref.isWhole_whole _)
      cc0_scratch4 cc0_scratch5 cc0_scratch6 cc0_scratch7) (fun _ => bodyPost m ρ c)
  unfold bodyPre' Φ₀ start
  iintro ⟨⟨⟨⟨%K, Hgh⟩, H1, H2, H3, H4, H5⟩, Hscr⟩, Ho, Hx, Hg, Hu, Hd, Hout⟩
  iapply (sound_body m ρ K c fun _ => bodyPost m ρ c)
  unfold bodyPre
  isplitr []
  · isplitl [Hgh H1 H2 H3 H4 H5 Hscr]
    · isplitl [Hgh]; · iexact Hgh
      isplitl [H1]; · iexact H1
      isplitl [H2]; · iexact H2
      isplitl [H3]; · iexact H3
      isplitl [H4]; · iexact H4
      isplitl [H5]; · iexact H5
      iexact Hscr
    isplitl [Ho]; · iexact Ho
    isplitl [Hx]; · iexact Hx
    isplitl [Hg]; · iexact Hg
    isplitl [Hu]; · iexact Hu
    isplitl [Hd] <;> iassumption
  · iintro H; iexact H

end Cert.Mlp
-- ==== Proof.Launch.lean ====
/-
# The launch

Every device's cells are funded at once, their duties' tokens dealt to the devices that pay them, and the credits of what
each device will be paid read off what the others owe. Then the run: every execution terminates, with every array at the
contents the body leaves and every semaphore at zero.
-/
module

public import proofs.«01_k».proof.Proof.Body
public import Idealize.ShloMosaic.Lib.Pipeline.CollectiveSegs

@[expose] public section

noncomputable section

namespace Cert.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Separating conjunctions over the cells -/

/-- A conjunction over the four kinds, written out. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Over a device's cells: the barrier's, and the four kinds'. -/
theorem bigSep_cells (Φ : Option (Fin 4 × Fin 7) → sProp 𝕄) : bigSep Finset.univ Φ = iprop(Φ none ∗
    (bigSep Finset.univ fun t => Φ (some (0, t))) ∗ (bigSep Finset.univ fun t => Φ (some (1, t)))
    ∗ (bigSep Finset.univ fun t => Φ (some (2, t))) ∗ bigSep Finset.univ fun t => Φ (some (3, t))) := by
  rw [← Finset.insert_erase (Finset.mem_univ (none : Option (Fin 4 × Fin 7))), bigSep_insert (Finset.notMem_erase _ _),
    show Finset.univ.erase (none : Option (Fin 4 × Fin 7)) = Finset.univ.map ⟨some, Option.some_injective _⟩ from by decide,
    bigSep_map, bigSep_univ_prod, bigSep_four]
  rfl

/-! ## The semaphores -/

/-- The kernel's own thirty-two transfer semaphores. -/
abbrev osem (x : Fin 4 × Fin 8) : SemLoc sig := .dma (sm x.1 x.2)

/-- They are the call's own: distinct from each other and from the pipeline's. -/
theorem ownSemFacts : Pipeline.OwnSemFacts cfg0.spec osem := by decide +kernel

/-- Those of a device at zero: the four unused, and the cells of the four kinds. -/
theorem ownSems0_eq (c : Dev nD) : (Pipeline.ownSems0 (Ix := Unit) (Name := ℕ) (U := UU) (Lvl := ℕ) (Val := Elt F) (τ := τ) osem c : sProp 𝕄)
    = iprop(idle c ∗ zer c 0 ∗ zer c 1 ∗ zer c 2 ∗ zer c 3) := by
  unfold Pipeline.ownSems0 idle
  rw [bigSep_univ_prod, bigSep_congr (s := (Finset.univ : Finset (Fin 4))) fun k _ => bigSep_succ (n := 7) fun d => (semVal ((c : Thread nD τ), osem (k, d)) 0 : sProp 𝕄),
    bigSep_sep', bigSep_four (fun k => bigSep Finset.univ fun i : Fin 7 => (semVal ((c : Thread nD τ), osem (k, i.succ)) 0 : sProp 𝕄))]
  rfl
/-- The one semaphore outside the call is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Every window's array is held in full. -/
theorem share_eq (c : Dev nD) (w : Fin cfg0.W) : (dats m ρ 0 c).share w = fullShare := by unfold Dat.share; split <;> rfl

/-! ## Funding the cells -/

/-- Different cells of a device are different semaphores; -/
theorem csem_injective : Function.Injective csem := by decide +kernel
/-- and different cells of the mesh are different. -/
theorem kcell_injective : Function.Injective (kcell : Dev nD × Option (Fin 4 × Fin 7) → GSem nD τ sig) := by
  rintro ⟨c, k⟩ ⟨c', k'⟩ h
  have h1 : c = c' := by have := congrArg (fun g : GSem nD τ sig => g.1.1) h; exact this
  subst h1
  exact congrArg (Prod.mk c) (csem_injective (congrArg Prod.snd h))
/-- All the protocol's cells. -/
def allCells : Finset (GSem nD τ sig) := Finset.univ.map ⟨kcell, kcell_injective⟩

/-- A device's own cells' duties: the barrier's seven, each transfer cell's one. -/
abbrev tokOf (x : Dev nD × (Fin 7 ⊕ (Fin 4 × Fin 7))) : GSem nD τ sig × ℕ × Fin 7 := match x.2 with
  | .inl t => (barCell x.1, 0, t) | .inr kt => (cell kt.1 x.1 kt.2, 0, 0)
/-- Different duties are different. -/
theorem tokOf_injective : Function.Injective tokOf := by
  rintro ⟨c, j⟩ ⟨c', j'⟩ h
  have h1 : c = c' := by
    have := congrArg (fun x : GSem nD τ sig × ℕ × Fin 7 => x.1.1.1) h
    rcases j with t | kt <;> rcases j' with t' | kt' <;> exact this
  subst h1
  rcases j with t | kt <;> rcases j' with t' | kt'
  · have h2 : t = t' := congrArg (fun x : GSem nD τ sig × ℕ × Fin 7 => x.2.2) h
    rw [h2]
  · exact absurd (congrArg (fun x : GSem nD τ sig × ℕ × Fin 7 => x.1.2) h) (fun h' => by cases h')
  · exact absurd (congrArg (fun x : GSem nD τ sig × ℕ × Fin 7 => x.1.2) h) (fun h' => by cases h')
  · have h2 : csem (some kt) = csem (some kt') := congrArg (fun x : GSem nD τ sig × ℕ × Fin 7 => x.1.2) h
    rw [Option.some_injective _ (csem_injective h2)]
/-- All the protocol's duties. -/
def allToks : Finset (GSem nD τ sig × ℕ × Fin 7) := Finset.univ.map ⟨tokOf, tokOf_injective⟩

/-- The resources at launch: the pipeline's, and the rounds' at every cell with every duty open. -/
def u₀ : UU := (initOf (Pipeline.cells cfgs cellOf_inj) (Pipeline.launchToks cfgs cellOf_inj), initOf allCells allToks)

/-- The tokens of device `c`'s own cells' duties. -/
def toks (c : Dev nD) : sProp 𝕄 :=
  iprop((bigSep Finset.univ fun t : Fin 7 => dutyTok ER (barCell c) 0 t) ∗ tokS c 0 ∗ tokS c 1 ∗ tokS c 2 ∗ tokS c 3)

/-- What the launch deals device `c`; -/
def G (c : Dev nD) : sProp 𝕄 :=
  iprop((bigSep Finset.univ fun k => roundState ER (sched m ρ) (kcell (c, k)) 0)
    ∗ (bigSep Finset.univ fun k => iprop(atPos ER (kcell (c, k)) 0 ∅ 0 ∗ reached ER (kcell (c, k)) 0)) ∗ toks c)
/-- and what is made of it. -/
def G' (c : Dev nD) : sProp 𝕄 := iprop((∃ K, ghost m ρ K c) ∗ idle c)

/-- The rounds' resources at launch fund every device's part. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks tokS; rw [bigSep_univ_sum, bigSep_univ_prod, bigSep_four]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's semaphores at zero: the unused ones, and one per cell. -/
theorem sems0_eq (c : Dev nD) :
    iprop(Pipeline.ownSems0 (Ix := Unit) (Name := ℕ) (U := UU) (Lvl := ℕ) (Val := Elt F) (τ := τ) osem c ∗ unscopedSems0 c)
      ⊢ (iprop(idle c ∗ bigSep Finset.univ fun k => semVal (kcell (c, k)) 0) : sProp 𝕄) := by
  rw [ownSems0_eq, unscopedSems0_eq, bigSep_cells]
  iintro ⟨⟨HI, H0, H1, H2, H3⟩, HB⟩
  isplitl [HI]; · iexact HI
  isplitl [HB]; · iexact HB
  isplitl [H0]; · iapply (show (zer c 0 : sProp 𝕄) ⊢ bigSep Finset.univ fun t => semVal (kcell (c, some (0, t))) 0 from BIBase.Entails.refl); iexact H0
  isplitl [H1]; · iapply (show (zer c 1 : sProp 𝕄) ⊢ bigSep Finset.univ fun t => semVal (kcell (c, some (1, t))) 0 from BIBase.Entails.refl); iexact H1
  isplitl [H2]; · iapply (show (zer c 2 : sProp 𝕄) ⊢ bigSep Finset.univ fun t => semVal (kcell (c, some (2, t))) 0 from BIBase.Entails.refl); iexact H2
  iapply (show (zer c 3 : sProp 𝕄) ⊢ bigSep Finset.univ fun t => semVal (kcell (c, some (3, t))) 0 from BIBase.Entails.refl); iexact H3

/-- A device's cells at zero and their round states become the cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c ∗ idle c) := by
  unfold G
  iintro ⟨Hos, Hus, Hst, Hat, Htok⟩
  ihave ⟨Hid, Hv⟩ := (sems0_eq (F := F) c) $$ [Hos Hus]
  · isplitl [Hos] <;> iassumption
  imod (show iprop((bigSep Finset.univ fun k => semVal (kcell (c, k)) 0) ∗ bigSep Finset.univ fun k => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hid

/-- The tokens of the duties device `c` pays. -/
def payToks (c : Dev nD) : sProp 𝕄 := iprop(tokB c ∗ tokS c 0 ∗ tokD c 1 ∗ tokS c 2 ∗ tokD c 3)
/-- What device `c` alone holds of the protocol. -/
def linear (c : Dev nD) : sProp 𝕄 := iprop((atPos ER (barCell c) 0 ∅ 0 ∗ pos c 0 ∗ pos c 1 ∗ pos c 2 ∗ pos c 3) ∗ payToks c)

/-- The record, and what a device holds alone, are the protocol's start on it. -/
theorem ghost_intro (K) (c : Dev nD) : iprop(records m ρ K ∗ linear c ∗ idle c) ⊢ G' m ρ c := by
  unfold linear payToks G' ghost
  iintro ⟨HR, ⟨Hp, Ht⟩, Hid⟩
  isplitr [Hid]
  · iexists K
    isplitl [HR]; · iexact HR
    isplitl [Hp] <;> iassumption
  iexact Hid

/-- Devices outside, distances inside, or the other way round. -/
theorem bigSep_turn {α β : Type} [Fintype α] [Fintype β] [DecidableEq α] [DecidableEq β] (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), ← bigSep_univ_prod (fun x : β × α => Φ x.2 x.1), bigSep_univ_equiv (Equiv.prodComm β α)]
  rfl

/-- A conjunction over devices and distances, dealt around. -/
theorem deal (Φ : Dev nD → Fin 7 → sProp 𝕄) (e : Fin 7 → (Dev nD ≃ Dev nD)) :
    (bigSep Finset.univ fun c => bigSep Finset.univ fun t => Φ c t) = bigSep Finset.univ fun c => bigSep Finset.univ fun t => Φ (e t c) t := by
  rw [bigSep_turn, bigSep_congr (s := (Finset.univ : Finset (Fin 7))) fun t _ => bigSep_univ_equiv (e t) fun c => Φ c t, bigSep_turn]

/-- The tokens of every device's own cells, dealt to the devices that pay the duties. -/
theorem toks_around : (bigSep Finset.univ fun c : Dev nD => (toks c : sProp 𝕄)) ⊢ bigSep Finset.univ fun c : Dev nD => payToks c := by
  have hB : (bigSep Finset.univ fun c : Dev nD => bigSep Finset.univ fun t : Fin 7 => (dutyTok ER (barCell c) 0 t : sProp 𝕄)) = bigSep Finset.univ fun c => tokB c :=
    deal (fun c t => dutyTok ER (barCell c) 0 t) fun t => (around t.val).symm
  have hD (k : Fin 4) : (bigSep Finset.univ fun c : Dev nD => (tokS c k : sProp 𝕄)) = bigSep Finset.univ fun c => tokD c k :=
    deal (fun c t => dutyTok ER (cell k c t) 0 0) fun t => around t.val
  unfold toks payToks
  rw [bigSep_sep', bigSep_sep', bigSep_sep', bigSep_sep', bigSep_sep', bigSep_sep', bigSep_sep', bigSep_sep', hB, hD 1, hD 3]

/-- A fact that may be used again is used at every index. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants of all devices' cells are the shared record; each device gets it and the tokens of what it pays. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c ∗ idle c) : sProp 𝕄)
      ⊢ bigSep Finset.univ (G' m ρ) := by
  rw [bigSep_sep', bigSep_sep', bigSep_sep', ← bigSep_univ_prod (fun ck : Dev nD × Option (Fin 4 × Fin 7) => iprop(∃ κ : ℕ, cellInv ER (sched m ρ) κ (kcell ck))),
    bigSep_congr (s := Finset.univ) (fun (c : Dev nD) _ => bigSep_sep' Finset.univ (fun k : Option (Fin 4 × Fin 7) => (atPos ER (kcell (c, k)) 0 ∅ 0 : sProp 𝕄)) (fun k => reached ER (kcell (c, k)) 0)),
    bigSep_sep', ← bigSep_univ_prod (fun ck : Dev nD × Option (Fin 4 × Fin 7) => (reached ER (kcell ck) 0 : sProp 𝕄))]
  iintro ⟨HI, ⟨Hat, #HR⟩, Htok, Hid⟩
  ihave HK := (BI.bigSep_exists_pi Finset.univ (fun (ck : Dev nD × Option (Fin 4 × Fin 7)) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (sep_up Finset.univ (fun c : Dev nD => linear c) (fun c : Dev nD => idle c))
    isplitr [Hid]
    · iapply ((Entails.of_eq (bigSep_sep' Finset.univ (fun c : Dev nD => bigSep Finset.univ fun k => (atPos ER (kcell (c, k)) 0 ∅ 0 : sProp 𝕄)) payToks).symm).trans
        (bigSep_mono fun c _ => show _ ⊢ linear c from Entails.of_eq (by unfold linear pos; rw [bigSep_cells])))
      isplitl [Hat]; · iexact Hat
      iexact Htk
    · iexact Hid

/-- From the semaphores at zero to the protocol's start on every device. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- What every device owes over distance `t + 1` is what every device is paid over it. -/
theorem crd_of (k : Fin 4) (c : Dev nD) :
    (Pipeline.launchCred (fun d : Dev nD => ∑ t ∈ (Finset.univ : Finset (Fin 7)), tallyAt (cell k (nx d t.val) t) () N) c : sProp 𝕄) ⊢ crd c k := by
  rw [Pipeline.launchCred_sum]
  unfold crd
  exact bigSep_mono fun t _ => Pipeline.launchCred_tallyAt (.dma (sm k t.succ)) (fun d => nx d t.val) (fun d => pv d t.val) (fun d => nx_pv d t.val) (fun d => pv_nx d t.val) () N c

/-- The units all devices owe each other's barriers are seven for each. -/
theorem bar_of (c : Dev nD) :
    (Pipeline.launchCred (fun d : Dev nD => ∑ t ∈ (Finset.univ : Finset (Fin 7)), tallyAt (barCell (pv d t.val)) () 1) c : sProp 𝕄) ⊢ cred (tallyAt (barCell c) () 7) := by
  refine Entails.of_eq (Pipeline.launchCred_of_sum _ (fun d => tallyAt (barCell d) () 7) ?_ ?_ c)
  · rw [Finset.sum_comm]
    have h (t : Fin 7) : (∑ d : Dev nD, (tallyAt (barCell (pv d t.val)) () 1 : CellTallies nD τ sig Unit)) = ∑ d : Dev nD, tallyAt (barCell d) () 1 :=
      Equiv.sum_comp (around t.val).symm fun d => (tallyAt (barCell d) () 1 : CellTallies nD τ sig Unit)
    rw [Finset.sum_congr rfl fun t _ => h t, Finset.sum_comm]
    refine Finset.sum_congr rfl fun d _ => ?_
    rw [Fin.sum_univ_seven, tallyAt_add, tallyAt_add, tallyAt_add, tallyAt_add, tallyAt_add, tallyAt_add]
  · intro d g h
    by_contra hne
    exact h (by rw [tallyAt_ne_cell fun he => hne (congrArg Prod.fst he)])

/-- The credits of what the others owe a device. -/
theorem creds (c : Dev nD) : (Pipeline.launchCred O₀ c : sProp 𝕄) ⊢ iprop(cred (tallyAt (barCell c) () 7) ∗ crd c 1 ∗ crd c 3) := by
  rw [show (O₀ : Dev nD → CellTallies nD τ sig Unit) = fun d => (oA d Finset.univ + oR d Finset.univ) + oB d Finset.univ from rfl,
    Pipeline.launchCred_add (fun d => oA d Finset.univ + oR d Finset.univ) (fun d => oB d Finset.univ), Pipeline.launchCred_add (fun d => oA d Finset.univ) (fun d => oR d Finset.univ)]
  iintro ⟨⟨HA, HR⟩, HB⟩
  isplitl [HB]; · iapply (bar_of c); iexact HB
  isplitl [HR]; · iapply (crd_of 1 c); iexact HR
  iapply (crd_of 3 c); iexact HA

/-! ## The side conditions -/

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave ⟨HB, H1, H3⟩ := (creds (F := F) c) $$ Hcr
  unfold start G'
  icases HG with ⟨HG, Hid⟩
  imodintro
  isplitl
  · isplitl [HG]; · iexact HG
    isplitl [Hlev]; · iexact Hlev
    isplitl [HB]; · iexact HB
    isplitl [H1]; · iexact H1
    isplitl [H3] <;> iassumption
  · iempintro

/-- With the scratch buffers it is the pipeline's state before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- The pipeline's state after the body gives back every semaphore at zero, and the scratch buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HzB, H0, H1, H2, H3, Hid⟩
  isplitl [HzB]; · iexact HzB
  isplitl [H0 H1 H2 H3 Hid]
  · isplitl [Hid]; · iexact Hid
    isplitl [H0]; · iexact H0
    isplitl [H1]; · iexact H1
    isplitl [H2] <;> iassumption
  iexact Hr

/-- The waits of the pipeline itself are admitted by the levels. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide)
    · show (levAts L lv : sProp 𝕄) ⊢ MayWait (c : Thread nD τ) _ () 0
      rw [MayWait_zero]; iintro -; iempintro

/-! ## The run -/

/-- What the arrays hold after the run. -/
def finalA (c : Dev nD) (w : Fin cfg0.W) : Buf (Elt F) ((cfg0.win w).arr.view.loc (c : Thread nD τ)) := (dats m ρ 0 c).arrAt w cfg0.N

/-- Every window's array ends at the computed contents, on every device. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of eight devices, for any float values and from any memory with zero counters: every weakly fair
    execution terminates, and leaves every array at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Mlp
-- ==== Proof.Final.lean ====
/-
# What the run leaves

The arguments as they were, the result array at the contents the body computes; and the staged copies of the arguments
are the arguments.
-/
module

public import proofs.«01_k».proof.Proof.Launch

@[expose] public section

noncomputable section

namespace Cert.Mlp

open Cert.KernelIdeal Cert.KernelIdeal.Gen

open Idealize.ShloMosaic
open Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

/-- The argument arrays end as launched. -/
theorem final_arg (c : Dev nD) (w : Fin 5) (hw : (cfg0.win w).isOut = false) :
    finalA m ρ c w = m ((cfg0.win w).arr.view.loc (c : Thread nD τ)) := (dats m ρ 0 c).arrAt_in w hw _

/-- Each argument's one block is the whole array: the staged copy is the argument. -/
theorem xs_eq (c : Dev nD) : xs m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
/-- The staged part of `Wg` is the second argument. -/
theorem wg_eq (c : Dev nD) : wg m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
/-- The staged part of `Wu` is the third argument. -/
theorem wu_eq (c : Dev nD) : wu m ρ c = m ((c : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) _
/-- The staged part of `Wd` is the fourth argument. -/
theorem wd_eq (c : Dev nD) : wd m ρ c = m ((c : Thread nD τ).loc main_arg3) := by
  have hz : (fun a => (win0_3.index (0 : Fin 1)) a * main_arg3.ty.shape.size a) = fun _ => 0 := funext fun a => by fin_cases a <;> decide
  exact Memref.read_access_unit_zero (Elt F) main_arg3 hz (fun a => by fin_cases a <;> decide) _

/-- The result array ends at what the body left in its staging buffer. -/
theorem final_out (c : Dev nD) : finalA m ρ c (4 : Fin 5) = oF m ρ c := by
  have hz : (fun a => (win0_4.index (0 : Fin 1)) a * main_v1.ty.shape.size a) = fun _ => 0 := funext fun a => by fin_cases a <;> decide
  have h : (win0_4.blk (0 : Fin 1)).view.read (Elt F) (finalA m ρ c (4 : Fin 5)) = oF m ρ c := by
    unfold finalA
    rw [show cfg0.N = ((0 : Fin 1) : Fin cfg0.N).val + 1 from rfl, (dats m ρ 0 c).arrAt_succ (4 : Fin 5) (0 : Fin 1),
      show (cfg0.win (4 : Fin 5)).flush (0 : Fin 1) = true from by decide, if_pos rfl]
    exact View.read_write_univ _ _
  exact (Memref.read_access_unit_zero (Elt F) main_v1 hz (fun a => by fin_cases a <;> decide) (finalA m ρ c (4 : Fin 5))).symm.trans h

/-- The run, read at the program's arrays. -/
theorem run_arrays : θ_run defs (onTc (τ := τ) (main (F := F))) ⟨m, fun _ => 0, ρ⟩ (fun r => (∀ c : Dev nD,
      r.2.mem ((c.tc : Thread nD τ).loc main_v1) = oF m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c (4 : Fin 5)).trans (final_out m ρ c), (h.1 c (0 : Fin 5)).trans (final_arg m ρ c 0 rfl),
      (h.1 c (1 : Fin 5)).trans (final_arg m ρ c 1 rfl), (h.1 c (2 : Fin 5)).trans (final_arg m ρ c 2 rfl), (h.1 c (3 : Fin 5)).trans (final_arg m ρ c 3 rfl)⟩, h.2⟩) (run_main m ρ)

/-- The run, read at the arguments alone. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => (h.1 c).2, h.2⟩) (run_arrays m ρ)

end Cert.Mlp
-- ==== Proof.Value.lean ====
/-
# What the result is

Over the extended reals: the whole layer's element as one sum over the 16384 hidden units, a device's partial result as
the part of that sum over its own 2048 units, and the additions of the partials that arrive as the sum over the eight devices.
-/
module

public import proofs.«01_k».proof.Proof.Final
public import proofs.«01_k».proof.Proof.Gen.ReferenceIdeal
public import Idealize.ShloMosaic.Lib.Pointwise

@[expose] public section

noncomputable section

namespace Cert.Mlp

section
open Cert.ReferenceIdeal Cert.ReferenceIdeal.Facts₀ Idealize.ShloMosaic

/-- The reference's result, as its operations compute it. -/
def refOut (x : Vec Ideal S1024x1024 .bf16) (g u : Vec Ideal S1024x16384 .bf16) (d : Vec Ideal S16384x1024 .bf16) :
    FVec Ideal S1024x1024 .f32 :=
  Host.dotGeneral dot_S1024x16384_S16384x1024_S1024x1024_1_0_0_1_n_n none (mulf (Host.dotGeneral dot_S1024x1024_S1024x16384_S1024x16384_1_0_0_1_n_n none (extf .f32 x bitsLt_bf16_f32) (extf .f32 g bitsLt_bf16_f32)) (Host.divf (Host.dotGeneral dot_S1024x1024_S1024x16384_S1024x16384_1_0_0_1_n_n none (extf .f32 x bitsLt_bf16_f32) (extf .f32 u bitsLt_bf16_f32)) (addf (broadcastInDim S1024x16384 ![] bcast_S_S1024x16384 (constant S_ .f32 0x3F800000#32)) (Host.exp (Host.negf (Host.dotGeneral dot_S1024x1024_S1024x16384_S1024x16384_1_0_0_1_n_n none (extf .f32 x bitsLt_bf16_f32) (extf .f32 u bitsLt_bf16_f32))))))) (extf .f32 d bitsLt_bf16_f32)

end

open Cert.KernelIdeal Cert.KernelIdeal.Gen

open Idealize.ShloMosaic
open Idealize.ShloMosaic.TcCoe

/-- One hidden unit's contribution to one element: the gate, times `u / (1 + e⁻ᵘ)` of the up product, times the down
    weight. -/
def hidden {R J : ℕ} (X : (⟨2, ![R, 1024]⟩ : Shape).Idx → EReal) (G U : (⟨2, ![1024, J]⟩ : Shape).Idx → EReal)
    (D : (⟨2, ![J, 1024]⟩ : Shape).Idx → EReal) (r : Fin R) (q : Fin 1024) (k : Fin J) : EReal :=
  (∑ a : Fin 1024, X (ix2 r a) * G (ix2 a k))
    * ((∑ a : Fin 1024, X (ix2 r a) * U (ix2 a k)) * Ideal.logistic (∑ a : Fin 1024, X (ix2 r a) * U (ix2 a k))) * D (ix2 k q)

/-- A contribution is read off one row of `X`, one column of `G` and of `U`, and one element of `D`. -/
theorem hidden_congr {R J R' J' : ℕ} {X : (⟨2, ![R, 1024]⟩ : Shape).Idx → EReal} {G U : (⟨2, ![1024, J]⟩ : Shape).Idx → EReal}
    {D : (⟨2, ![J, 1024]⟩ : Shape).Idx → EReal} {X' : (⟨2, ![R', 1024]⟩ : Shape).Idx → EReal} {G' U' : (⟨2, ![1024, J']⟩ : Shape).Idx → EReal}
    {D' : (⟨2, ![J', 1024]⟩ : Shape).Idx → EReal} {r : Fin R} {r' : Fin R'} {q : Fin 1024} {k : Fin J} {k' : Fin J'}
    (hX : ∀ a, X (ix2 r a) = X' (ix2 r' a)) (hG : ∀ a, G (ix2 a k) = G' (ix2 a k')) (hU : ∀ a, U (ix2 a k) = U' (ix2 a k'))
    (hD : D (ix2 k q) = D' (ix2 k' q)) : hidden X G U D r q k = hidden X' G' U' D' r' q k' := by
  unfold hidden; simp only [hX, hG, hU, hD]

/-- The product kept for the own chunk, element by element: the contributions of the device's hidden units. -/
theorem own_apply (x : Vec Ideal S128x1024 .bf16) (g u : Vec Ideal S1024x2048 .bf16) (d : Vec Ideal S2048x1024 .bf16) (i : Fin 128) (q : Fin 1024) :
    k0_pay4 x g u d (ix2 i q) = ∑ k : Fin 2048, hidden x g u d i q k := by
  pointwise [k0_pay4]; rfl

/-- The product sent, element by element: the same contributions. -/
theorem part_apply (x : Vec Ideal S128x1024 .bf16) (g u : Vec Ideal S1024x2048 .bf16) (d : Vec Ideal S2048x1024 .bf16) (i : Fin 128) (q : Fin 1024) :
    k0_pay3 x g u d (ix3 0 i q) = ∑ k : Fin 2048, hidden x g u d i q k := by
  pointwise [k0_pay3]; rfl

/-- A partial added, element by element. -/
theorem add_apply (a : FVec Ideal S128x1024 .f32) (v : Vec Ideal S1x128x1024 .bf16) (i : Fin 128) (q : Fin 1024) :
    k0_pay5 a v (ix2 i q) = a (ix2 i q) + v (ix3 0 i q) := by
  pointwise [k0_pay5]

/-- A sum sent as a chunk and written into the result is the sum. -/
theorem spread_apply (a : FVec Ideal S128x1024 .f32) (i : Fin 128) (q : Fin 1024) :
    k0_pay2 (shapeCast S1x128x1024 (k0_pay1 a) shapeCasts_S128x1024_S1x128x1024) (ix2 i q) = a (ix2 i q) := by
  pointwise [k0_pay2, k0_pay1]

/-! ## The reference -/

/-- `e^x` is never negative, so the quotient's divisor is never zero. -/
theorem one_add_exp_ne (x : EReal) : (1 : EReal) + Ideal.exp x ≠ 0 := by
  have h : (0 : EReal) ≤ Ideal.exp x := by
    induction x with
    | bot => exact le_refl _
    | top => exact le_top
    | coe r => exact EReal.coe_nonneg.2 (Real.exp_pos r).le
  exact (lt_of_lt_of_le zero_lt_one (le_add_of_nonneg_right h)).ne'

/-- The quotient by `1 + e⁻ᵘ` is the product with the logistic of `u`. -/
theorem div_eq (u : EReal) : Ideal.div u (1 + Ideal.exp (-u)) = u * Ideal.logistic u := by
  unfold Ideal.logistic Ideal.div
  rw [if_neg (one_add_exp_ne _), if_neg (one_add_exp_ne _), one_mul]

/-- The reference's result, element by element: the contributions of all hidden units. -/
theorem refOut_apply (x : Vec Ideal S1024x1024 .bf16) (g u : Vec Ideal Cert.ReferenceIdeal.S1024x16384 .bf16) (d : Vec Ideal Cert.ReferenceIdeal.S16384x1024 .bf16)
    (r q : Fin 1024) : refOut x g u d (ix2 r q) = ∑ k : Fin 16384, hidden x g u d r q k := by
  delta refOut
  pointwise
  simp only [div_eq]
  rfl

/-! ## The kernel -/

/-- All eight devices: one, and those `1` to `7` places before it. -/
theorem sum_around (f : Dev nD → EReal) (c : Dev nD) : f c + ∑ t ∈ Finset.range 7, f (pv c t) = ∑ d : Dev nD, f d := by
  have h (t : Fin 7) : pv c t.val = (c : Fin 8) - t.succ := by revert c t; decide
  rw [Finset.sum_range, Finset.sum_congr rfl fun t _ => congrArg f (h t)]
  refine Eq.trans ?_ (Equiv.sum_comp (Equiv.subLeft (c : Fin 8)) f)
  rw [Fin.sum_univ_succ]
  show _ = f ((c : Fin 8) - 0) + _
  rw [sub_zero]
  rfl

variable (m : (ℓ : Loc nD τ sig) → Buf (Elt Ideal) ℓ) (ρ : Dev nD → PrngReg)

/-- The running sum, element by element. -/
theorem red_apply (c : Dev nD) (n : ℕ) (i : Fin 128) (q : Fin 1024) :
    red m ρ c n (ix2 i q) = own m ρ c (ix2 i q) + ∑ t ∈ Finset.range n, part m ρ (pv c t) c (ix3 0 i q) := by
  induction n with
  | zero => rw [Finset.sum_range_zero, add_zero]; rfl
  | succ n ih => rw [Finset.sum_range_succ, ← add_assoc, ← ih]; exact add_apply _ _ i q

/-- An index within its row chunk, by coordinates. -/
theorem inRow_ix (r q : Fin 1024) : inRow (ix2 r q) = ix2 (⟨r.val % 128, Nat.mod_lt _ (by decide)⟩ : Fin 128) q := by
  funext a; match a with
  | ⟨0, _⟩ => rfl
  | ⟨1, _⟩ => rfl

/-- Every device's result holds, in row chunk `j`, device `j`'s finished sum. -/
theorem out_apply (c : Dev nD) (r q : Fin 1024) :
    oF m ρ c (ix2 r q) = red m ρ (rowOf (ix2 r q)) 7 (ix2 (⟨r.val % 128, Nat.mod_lt _ (by decide)⟩ : Fin 128) q) := by
  unfold oF
  rw [inRow_ix]
  split
  · rename_i h; rw [h]
  · exact spread_apply _ _ q

/-! ## The kernel against the reference -/

variable (X : S1024x1024.Idx → EReal) (GG UG : Cert.ReferenceIdeal.S1024x16384.Idx → EReal) (DG : Cert.ReferenceIdeal.S16384x1024.Idx → EReal)

/-- Hidden unit `k` of device `c`. -/
abbrev unitOf (c : Dev nD) (k : Fin 2048) : Fin 16384 := ⟨c.val * 2048 + k.val, by have := c.isLt; simp only [nD] at this; omega⟩

/-- A device's part of a matrix cut along its columns holds the columns of its units; -/
theorem cols (c : Dev nD) (v : Cert.ReferenceIdeal.S1024x16384.Idx → EReal) (a : Fin 1024) (k : Fin 2048) :
    (Layout.block ⟨2, ![1024, 2048]⟩ ⟨2, ![1024, 16384]⟩ 1 8 c v) (ix2 a k) = v (ix2 a (unitOf c k)) := by
  rw [Layout.block_apply]
  refine congrArg v (funext fun b => ?_)
  match b with
  | ⟨0, _⟩ => rfl
  | ⟨1, _⟩ => rfl
/-- cut along its rows, the rows of its units. -/
theorem rows (c : Dev nD) (v : Cert.ReferenceIdeal.S16384x1024.Idx → EReal) (k : Fin 2048) (q : Fin 1024) :
    (Layout.block ⟨2, ![2048, 1024]⟩ ⟨2, ![16384, 1024]⟩ 0 8 c v) (ix2 k q) = v (ix2 (unitOf c k) q) := by
  rw [Layout.block_apply]
  refine congrArg v (funext fun b => ?_)
  match b with
  | ⟨0, _⟩ => rfl
  | ⟨1, _⟩ => rfl

/-- The devices' units are all the units. -/
theorem sum_units (f : Fin 16384 → EReal) : ∑ c : Dev nD, ∑ k : Fin 2048, f (unitOf c k) = ∑ k : Fin 16384, f k := by
  rw [← Fintype.sum_prod_type' (fun (c : Fin 8) (k : Fin 2048) => f (unitOf c k))]
  refine Fintype.sum_equiv (finProdFinEquiv (m := 8) (n := 2048)) _ _ fun x => congrArg f (Fin.ext ?_)
  show x.1.val * 2048 + x.2.val = x.2.val + 2048 * x.1.val
  omega

/-- Row `i` of row chunk `j` is row `128 j + i` of `x`. -/
theorem xrow_apply (c j : Dev nD) (i : Fin 128) (a : Fin 1024) :
    xrow m ρ c j (ix2 i a) = xs m ρ c (ix2 (⟨128 * j.val + i.val, by have := j.isLt; simp only [nD] at this; omega⟩ : Fin 1024) a) := by
  refine congrArg (xs m ρ c) (funext fun b => Fin.ext ?_)
  match b with
  | ⟨0, _⟩ => show 128 * j.val + 1 * i.val = 128 * j.val + i.val; rw [one_mul]
  | ⟨1, _⟩ => show 0 + 1 * a.val = a.val; omega

section
variable (hX : ∀ c, xs m ρ c = X) (hG : ∀ c, wg m ρ c = Layout.block ⟨2, ![1024, 2048]⟩ ⟨2, ![1024, 16384]⟩ 1 8 c GG)
  (hU : ∀ c, wu m ρ c = Layout.block ⟨2, ![1024, 2048]⟩ ⟨2, ![1024, 16384]⟩ 1 8 c UG)
  (hD : ∀ c, wd m ρ c = Layout.block ⟨2, ![2048, 1024]⟩ ⟨2, ![16384, 1024]⟩ 0 8 c DG)
include hX hG hU hD

/-- Device `c`'s units, as it computes them for row chunk `j`. -/
theorem hidden_dev (c j : Dev nD) (i : Fin 128) (q : Fin 1024) (k : Fin 2048) :
    hidden (xrow m ρ c j) (wg m ρ c) (wu m ρ c) (wd m ρ c) i q k
      = hidden X GG UG DG (⟨128 * j.val + i.val, by have := j.isLt; simp only [nD] at this; omega⟩ : Fin 1024) q (unitOf c k) :=
  hidden_congr (fun a => by rw [xrow_apply, hX]) (fun a => by rw [hG, cols]) (fun a => by rw [hU, cols]) (by rw [hD, rows])

/-- Device `j`'s finished sum, element by element: the contributions of all hidden units. -/
theorem red_total (j : Dev nD) (i : Fin 128) (q : Fin 1024) :
    red m ρ j 7 (ix2 i q) = ∑ k : Fin 16384, hidden X GG UG DG (⟨128 * j.val + i.val, by have := j.isLt; simp only [nD] at this; omega⟩ : Fin 1024) q k := by
  have h0 : own m ρ j (ix2 i q) = ∑ k : Fin 2048, hidden X GG UG DG (⟨128 * j.val + i.val, by have := j.isLt; simp only [nD] at this; omega⟩ : Fin 1024) q (unitOf j k) :=
    (own_apply _ _ _ _ i q).trans (Finset.sum_congr rfl fun k _ => hidden_dev m ρ X GG UG DG hX hG hU hD j j i q k)
  have h1 (c : Dev nD) : part m ρ c j (ix3 0 i q) = ∑ k : Fin 2048, hidden X GG UG DG (⟨128 * j.val + i.val, by have := j.isLt; simp only [nD] at this; omega⟩ : Fin 1024) q (unitOf c k) :=
    (part_apply _ _ _ _ i q).trans (Finset.sum_congr rfl fun k _ => hidden_dev m ρ X GG UG DG hX hG hU hD c j i q k)
  rw [red_apply, h0, Finset.sum_congr rfl fun t _ => h1 (pv j t),
    sum_around (fun c => ∑ k : Fin 2048, hidden X GG UG DG (⟨128 * j.val + i.val, by have := j.isLt; simp only [nD] at this; omega⟩ : Fin 1024) q (unitOf c k)) j, sum_units]

/-- Every device's result is the reference's. -/
theorem out_eq (c : Dev nD) : oF m ρ c = refOut X GG UG DG := by
  funext y
  obtain ⟨r, q, rfl⟩ : ∃ (r q : Fin 1024), y = ix2 r q := ⟨y 0, y 1, eq_ix2 y⟩
  refine (out_apply m ρ c r q).trans ((red_total m ρ X GG UG DG hX hG hU hD _ _ _).trans (Eq.trans ?_ (refOut_apply X GG UG DG r q).symm))
  have h : (⟨128 * (rowOf (ix2 r q)).val + r.val % 128, by have := (rowOf (ix2 r q)).isLt; simp only [nD] at this; have := Nat.mod_lt r.val (show 0 < 128 by decide); omega⟩ : Fin 1024) = r :=
    Fin.ext (show 128 * (r.val / 128) + r.val % 128 = r.val from Nat.div_add_mod _ _)
  exact Finset.sum_congr rfl fun k _ => congrArg (fun r => hidden X GG UG DG r q k) h

end

end Cert.Mlp
-- ==== Proof.lean ====
/-
# The proof of the certificate's claim

The two frames of the kernel are the one run (`Cert.Mlp.run_arrays`) at the bit patterns and at the extended reals; the
reference's frame is its own run; and the values agree by `Cert.Mlp.out_eq`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent
public import proofs.«01_k».proof.Proof.Value

@[expose] public section

noncomputable section

namespace Cert.Proof

open Idealize.ShloMosaic Idealize.SL.Sem

/-- The kernel's body table at the bit patterns is its idealization's: one label, and one body under both names. -/
theorem defs₀_eq : Cert.Kernel.defs₀ (F := Bits) = Cert.KernelIdeal.defs₀ (F := Bits) := by
  refine congrArg (Defs.onTc (nD := Cert.KernelIdeal.nD) (τ := Cert.KernelIdeal.τ) (sig := Cert.KernelIdeal.sig)
    (Val := Elt Bits) (Λ := Cert.KernelIdeal.Λ₀)) ?_
  funext l a
  match l, a with
  | 0, (t, s) => rfl

/-- So is the whole table, with the call's pipeline. -/
theorem defs_eq : Cert.Kernel.defs (F := Bits) = Cert.KernelIdeal.defs (F := Bits) :=
  congrArg (Pipeline.defs (Cert.KernelIdeal.pcfgs (F := Bits))) defs₀_eq

/-- The kernel's program as printed is its idealization's, so the run at the bit patterns is its run: the arguments end
    unchanged and every counter at zero. -/
theorem frame_kernel : Cert.quiescent_Kernel := fun m ρ _ => by
  have h := Cert.Mlp.run_args (F := Bits) m ρ
  rw [← defs_eq] at h
  exact h

/-- The same over the extended reals. -/
theorem frame_kernelIdeal : Cert.quiescent_KernelIdeal := fun m ρ _ => Cert.Mlp.run_args (F := Ideal) m ρ

/-- The reference leaves its arguments unchanged; it has no semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run (F := Ideal) m ρ)

/-- Every device's result is the reference's result, on the arguments whose parts the devices hold. -/
theorem values : Cert.algebraic_KernelIdeal_ReferenceIdeal := fun m ρ m' ρ' _ hagree =>
  ⟨_, (θ_run (Cert.KernelIdeal.defs (F := Ideal)) _ _).mono
      (fun _ h c => ⟨(h.1 c).1.trans (Cert.Mlp.out_eq m ρ _ _ _ _ (fun c => (Cert.Mlp.xs_eq m ρ c).trans (hagree c).1)
        (fun c => (Cert.Mlp.wg_eq m ρ c).trans (hagree c).2.1) (fun c => (Cert.Mlp.wu_eq m ρ c).trans (hagree c).2.2.1)
        (fun c => (Cert.Mlp.wd_eq m ρ c).trans (hagree c).2.2.2) c), (h.1 c).2⟩)
      (Cert.Mlp.run_arrays (F := Ideal) m ρ),
    (θ_run (Cert.ReferenceIdeal.defs (F := Ideal)) _ _).mono (fun _ h => h 0) (Cert.ReferenceIdeal.Value.run (F := Ideal) m' ρ')⟩

/-- The certificate's claim: the side conditions of the three programs, their frames, that the idealization rewrites nothing, and
    the values. -/
theorem claim : Cert.Claim := ⟨Cert.Kernel.Gen.facts, Cert.KernelIdeal.Gen.facts, Cert.ReferenceIdeal.Gen.facts,
  frame_kernel, frame_kernelIdeal, frame_reference, trivial, values⟩

end Cert.Proof

end
